-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_live_and_finite_KernelIdeal [hPre_live_and_finite_KernelIdeal : Cert.Pre_live_and_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_live_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_live_and_finite_ReferenceIdeal [hPre_live_and_finite_ReferenceIdeal : Cert.Pre_live_and_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_live_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_live_and_finite_KernelIdeal [hKernelIdeal : Cert.KernelIdeal.Facts] [hPre_live_and_finite_KernelIdeal : Cert.Pre_live_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_live_and_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_live_and_finite_ReferenceIdeal [hReferenceIdeal : Cert.ReferenceIdeal.Facts] [hPre_live_and_finite_ReferenceIdeal : Cert.Pre_live_and_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_live_and_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_live_and_finite_KernelIdeal [hKernelIdeal : Cert.KernelIdeal.Facts] [hReferenceIdeal : Cert.ReferenceIdeal.Facts] [hPre_live_and_finite_KernelIdeal : Cert.Pre_live_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_live_and_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![128, 16, 16, 64]⟩ ⟨4, ![256, 16, 16, 64]⟩ (Layout.meshBlock [2, 2] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![128, 16, 16, 64]⟩ ⟨4, ![256, 16, 16, 64]⟩ (Layout.meshBlock [2, 2] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_live_and_finite_KernelIdeal : Cert.Pre_live_and_finite_KernelIdeal.Facts) (hPre_live_and_finite_ReferenceIdeal : Cert.Pre_live_and_finite_ReferenceIdeal.Facts),
    quiescent_Kernel (hKernel := hKernel)
    ∧ quiescent_KernelIdeal (hKernelIdeal := hKernelIdeal)
    ∧ quiescent_KernelIdeal_pre_live_and_finite_KernelIdeal (hKernelIdeal := hKernelIdeal) (hPre_live_and_finite_KernelIdeal := hPre_live_and_finite_KernelIdeal)
    ∧ quiescent_ReferenceIdeal (hReferenceIdeal := hReferenceIdeal)
    ∧ quiescent_ReferenceIdeal_pre_live_and_finite_ReferenceIdeal (hReferenceIdeal := hReferenceIdeal) (hPre_live_and_finite_ReferenceIdeal := hPre_live_and_finite_ReferenceIdeal)
    ∧ preserves_Kernel_KernelIdeal
    ∧ algebraic_KernelIdeal_ReferenceIdeal_pre_live_and_finite_KernelIdeal (hKernelIdeal := hKernelIdeal) (hReferenceIdeal := hReferenceIdeal) (hPre_live_and_finite_KernelIdeal := hPre_live_and_finite_KernelIdeal)
-- ==== Pre_live_and_finite_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16 : S_.BroadcastsInDim S16 (![] : Fin 0 → Fin S16.rank)
  reducesTo_S16_S_d0 : S16.ReducesTo [0] S_
  h_S_ : 0 < S_.numel
  bcast_S_S16x128 : S_.BroadcastsInDim S16x128 (![] : Fin 0 → Fin S16x128.rank)
  reducesTo_S16x128_S_d0_1 : S16x128.ReducesTo [0, 1] S_
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  bcast_S_S128x16x16x64 : S_.BroadcastsInDim S128x16x16x64 (![] : Fin 0 → Fin S128x16x16x64.rank)
  reducesTo_S128x16x16x64_S_d0_1_2_3 : S128x16x16x64.ReducesTo [0, 1, 2, 3] S_

variable [Facts]

def fn_part1 {F : FTy → Type} [FloatOps F] (main_arg1 : FVec F S128x16x16x64 .bf16) (main_v17 : IVec S_ 1) (main_v18 : FVec F S16x1x16x64 .bf16) : IVec S_ 1 :=
  let main_cst : FVec F S_ .bf16 := constant S_ .bf16 0x7F80#16
  let main_v19 : FVec F S16x1x16x64 .bf16 := broadcastInDim S16x1x16x64 ![] bcast_S_S16x1x16x64 main_cst
  let main_v20 : IVec S16x1x16x64 1 := cmpf .olt main_v18 main_v19
  let main_c_4 : IVec S_ 1 := constantI S_ 1 1#1
  let main_v21 : IVec S_ 1 := (fun x v => Host.reduce IntOp.andi x v reducesTo_S16x1x16x64_S_d0_1_2_3 h_S_) main_v20 main_c_4
  let main_v22 : IVec S_ 1 := andi main_v17 main_v21
  let main_v23 : FVec F S128x16x16x64 .bf16 := Host.absf main_arg1
  let main_cst_5 : FVec F S_ .bf16 := constant S_ .bf16 0x7F80#16
  let main_v24 : FVec F S128x16x16x64 .bf16 := broadcastInDim S128x16x16x64 ![] bcast_S_S128x16x16x64 main_cst_5
  let main_v25 : IVec S128x16x16x64 1 := cmpf .olt main_v23 main_v24
  let main_c_6 : IVec S_ 1 := constantI S_ 1 1#1
  let main_v26 : IVec S_ 1 := (fun x v => Host.reduce IntOp.andi x v reducesTo_S128x16x16x64_S_d0_1_2_3 h_S_) main_v25 main_c_6
  let main_v27 : IVec S_ 1 := andi main_v22 main_v26
  main_v27

def fn {F : FTy → Type} [FloatOps F] (main_arg0 : FVec F S16x1x16x64 .bf16) (main_arg1 : FVec F S128x16x16x64 .bf16) (main_arg2 : FVec F S128x16x16x64 .bf16) (main_arg3 : IVec S16x128 32) (main_arg4 : IVec S16 32) : IVec S_ 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_c : IVec S_ 32 := constantI S_ 32 1#32
  let main_v6 : IVec S16 32 := broadcastInDim S16 ![] bcast_S_S16 main_c
  let main_v7 : IVec S16 1 := cmpi .sge main_arg4 main_v6
  let main_c_0 : IVec S_ 1 := constantI S_ 1 1#1
  let main_v8 : IVec S_ 1 := (fun x v => Host.reduce IntOp.andi x v reducesTo_S16_S_d0 h_S_) main_v7 main_c_0
  let main_v9 : IVec S16x128 1 := noti main_v5
  let main_c_1 : IVec S_ 32 := constantI S_ 32 0#32
  let main_v10 : IVec S16x128 32 := broadcastInDim S16x128 ![] bcast_S_S16x128 main_c_1
  let main_v11 : IVec S16x128 1 := cmpi .sge main_arg3 main_v10
  let main_c_2 : IVec S_ 32 := constantI S_ 32 256#32
  let main_v12 : IVec S16x128 32 := broadcastInDim S16x128 ![] bcast_S_S16x128 main_c_2
  let main_v13 : IVec S16x128 1 := cmpi .slt main_arg3 main_v12
  let main_v14 : IVec S16x128 1 := andi main_v11 main_v13
  let main_v15 : IVec S16x128 1 := ori main_v9 main_v14
  let main_c_3 : IVec S_ 1 := constantI S_ 1 1#1
  let main_v16 : IVec S_ 1 := (fun x v => Host.reduce IntOp.andi x v reducesTo_S16x128_S_d0_1 h_S_) main_v15 main_c_3
  let main_v17 : IVec S_ 1 := andi main_v8 main_v16
  let main_v18 : FVec F S16x1x16x64 .bf16 := Host.absf main_arg0
  fn_part1 (F := F) main_arg1 main_v17 main_v18
-- ==== Pre_live_and_finite_ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16 : S_.BroadcastsInDim S16 (![] : Fin 0 → Fin S16.rank)
  reducesTo_S16_S_d0 : S16.ReducesTo [0] S_
  h_S_ : 0 < S_.numel
  bcast_S_S16x128 : S_.BroadcastsInDim S16x128 (![] : Fin 0 → Fin S16x128.rank)
  reducesTo_S16x128_S_d0_1 : S16x128.ReducesTo [0, 1] S_
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  bcast_S_S256x16x16x64 : S_.BroadcastsInDim S256x16x16x64 (![] : Fin 0 → Fin S256x16x16x64.rank)
  reducesTo_S256x16x16x64_S_d0_1_2_3 : S256x16x16x64.ReducesTo [0, 1, 2, 3] S_

variable [Facts]

def fn_part1 {F : FTy → Type} [FloatOps F] (main_arg1 : FVec F S256x16x16x64 .bf16) (main_v17 : IVec S_ 1) (main_v18 : FVec F S16x1x16x64 .bf16) : IVec S_ 1 :=
  let main_cst : FVec F S_ .bf16 := constant S_ .bf16 0x7F80#16
  let main_v19 : FVec F S16x1x16x64 .bf16 := broadcastInDim S16x1x16x64 ![] bcast_S_S16x1x16x64 main_cst
  let main_v20 : IVec S16x1x16x64 1 := cmpf .olt main_v18 main_v19
  let main_c_4 : IVec S_ 1 := constantI S_ 1 1#1
  let main_v21 : IVec S_ 1 := (fun x v => Host.reduce IntOp.andi x v reducesTo_S16x1x16x64_S_d0_1_2_3 h_S_) main_v20 main_c_4
  let main_v22 : IVec S_ 1 := andi main_v17 main_v21
  let main_v23 : FVec F S256x16x16x64 .bf16 := Host.absf main_arg1
  let main_cst_5 : FVec F S_ .bf16 := constant S_ .bf16 0x7F80#16
  let main_v24 : FVec F S256x16x16x64 .bf16 := broadcastInDim S256x16x16x64 ![] bcast_S_S256x16x16x64 main_cst_5
  let main_v25 : IVec S256x16x16x64 1 := cmpf .olt main_v23 main_v24
  let main_c_6 : IVec S_ 1 := constantI S_ 1 1#1
  let main_v26 : IVec S_ 1 := (fun x v => Host.reduce IntOp.andi x v reducesTo_S256x16x16x64_S_d0_1_2_3 h_S_) main_v25 main_c_6
  let main_v27 : IVec S_ 1 := andi main_v22 main_v26
  main_v27

def fn {F : FTy → Type} [FloatOps F] (main_arg0 : FVec F S16x1x16x64 .bf16) (main_arg1 : FVec F S256x16x16x64 .bf16) (main_arg2 : FVec F S256x16x16x64 .bf16) (main_arg3 : IVec S16x128 32) (main_arg4 : IVec S16 32) : IVec S_ 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_c : IVec S_ 32 := constantI S_ 32 1#32
  let main_v6 : IVec S16 32 := broadcastInDim S16 ![] bcast_S_S16 main_c
  let main_v7 : IVec S16 1 := cmpi .sge main_arg4 main_v6
  let main_c_0 : IVec S_ 1 := constantI S_ 1 1#1
  let main_v8 : IVec S_ 1 := (fun x v => Host.reduce IntOp.andi x v reducesTo_S16_S_d0 h_S_) main_v7 main_c_0
  let main_v9 : IVec S16x128 1 := noti main_v5
  let main_c_1 : IVec S_ 32 := constantI S_ 32 0#32
  let main_v10 : IVec S16x128 32 := broadcastInDim S16x128 ![] bcast_S_S16x128 main_c_1
  let main_v11 : IVec S16x128 1 := cmpi .sge main_arg3 main_v10
  let main_c_2 : IVec S_ 32 := constantI S_ 32 256#32
  let main_v12 : IVec S16x128 32 := broadcastInDim S16x128 ![] bcast_S_S16x128 main_c_2
  let main_v13 : IVec S16x128 1 := cmpi .slt main_arg3 main_v12
  let main_v14 : IVec S16x128 1 := andi main_v11 main_v13
  let main_v15 : IVec S16x128 1 := ori main_v9 main_v14
  let main_c_3 : IVec S_ 1 := constantI S_ 1 1#1
  let main_v16 : IVec S_ 1 := (fun x v => Host.reduce IntOp.andi x v reducesTo_S16x128_S_d0_1 h_S_) main_v15 main_c_3
  let main_v17 : IVec S_ 1 := andi main_v8 main_v16
  let main_v18 : FVec F S16x1x16x64 .bf16 := Host.absf main_arg0
  fn_part1 (F := F) main_arg1 main_v17 main_v18
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x16x64 : Shape := ⟨3, ![16, 16, 64]⟩
abbrev S_ : Shape := ⟨0, ![]⟩
abbrev S2048x16x64 : Shape := ⟨3, ![2048, 16, 64]⟩
abbrev S16x2048x64 : Shape := ⟨3, ![16, 2048, 64]⟩
abbrev S16x1 : Shape := ⟨2, ![16, 1]⟩
abbrev S16x16x2 : Shape := ⟨3, ![16, 16, 2]⟩
abbrev S2 : Shape := ⟨1, ![2]⟩
abbrev S16x128x128 : Shape := ⟨3, ![16, 128, 128]⟩
abbrev S16x128x1 : Shape := ⟨3, ![16, 128, 1]⟩
abbrev S16x1x1 : Shape := ⟨3, ![16, 1, 1]⟩
abbrev S128x2048 : Shape := ⟨2, ![128, 2048]⟩
abbrev S16x2048 : Shape := ⟨2, ![16, 2048]⟩
abbrev S32x2048 : Shape := ⟨2, ![32, 2048]⟩
abbrev S16x64 : Shape := ⟨2, ![16, 64]⟩
abbrev S1x16x64 : Shape := ⟨3, ![1, 16, 64]⟩
abbrev S32x128 : Shape := ⟨2, ![32, 128]⟩
abbrev S1x2048x64 : Shape := ⟨3, ![1, 2048, 64]⟩
abbrev S2048x64 : Shape := ⟨2, ![2048, 64]⟩
abbrev S2048x128 : Shape := ⟨2, ![2048, 128]⟩
abbrev S32 : Shape := ⟨1, ![32]⟩
abbrev S32x1 : Shape := ⟨2, ![32, 1]⟩
abbrev S16x2 : Shape := ⟨2, ![16, 2]⟩
abbrev S1x16x2 : Shape := ⟨3, ![1, 16, 2]⟩
abbrev S1 : Shape := ⟨1, ![1]⟩
abbrev S16x16x1 : Shape := ⟨3, ![16, 16, 1]⟩

abbrev nBuf : Space → Nat
  | .hbm => 18
  | .vmem => 10
  | .smem => 0
  | _ => 0

abbrev bufTy : (tb : Table) → Fin (tcTables nBuf tb) → BufTy
  | .hbm, ⟨0, _⟩ => ⟨S16x1x16x64, .bf16⟩
  | .hbm, ⟨1, _⟩ => ⟨S128x16x16x64, .bf16⟩
  | .hbm, ⟨2, _⟩ => ⟨S128x16x16x64, .bf16⟩
  | .hbm, ⟨3, _⟩ => ⟨S16x128, .i32⟩
  | .hbm, ⟨4, _⟩ => ⟨S16, .i32⟩
  | .hbm, ⟨5, _⟩ => ⟨S16x16x64, .bf16⟩
  | .hbm, ⟨6, _⟩ => ⟨S_, .bf16⟩
  | .hbm, ⟨7, _⟩ => ⟨S16x16x64, .bf16⟩
  | .hbm, ⟨8, _⟩ => ⟨S16x16x64, .bf16⟩
  | .hbm, ⟨9, _⟩ => ⟨S16x16x64, .bf16⟩
  | .hbm, ⟨10, _⟩ => ⟨S2048x16x64, .bf16⟩
  | .hbm, ⟨11, _⟩ => ⟨S16x2048x64, .bf16⟩
  | .hbm, ⟨12, _⟩ => ⟨S2048x16x64, .bf16⟩
  | .hbm, ⟨13, _⟩ => ⟨S16x2048x64, .bf16⟩
  | .hbm, ⟨14, _⟩ => ⟨S16x1, .i32⟩
  | .hbm, ⟨15, _⟩ => ⟨S16x16x64, .f32⟩
  | .hbm, ⟨16, _⟩ => ⟨S16x16x64, .f32⟩
  | .hbm, ⟨17, _⟩ => ⟨S16x1x16x64, .f32⟩
  | .local _ .vmem, ⟨0, _⟩ => ⟨S16x16x64, .bf16⟩
  | .local _ .vmem, ⟨1, _⟩ => ⟨S16x2048x64, .bf16⟩
  | .local _ .vmem, ⟨2, _⟩ => ⟨S16x2048x64, .bf16⟩
  | .local _ .vmem, ⟨3, _⟩ => ⟨S16x128, .i32⟩
  | .local _ .vmem, ⟨4, _⟩ => ⟨S16x1, .i32⟩
  | .local _ .vmem, ⟨5, _⟩ => ⟨S16x16x64, .f32⟩
  | .local _ .vmem, ⟨6, _⟩ => ⟨S16x16x64, .f32⟩
  | .local _ .vmem, ⟨7, _⟩ => ⟨S16x16x2, .f32⟩
  | .local _ .vmem, ⟨8, _⟩ => ⟨S16x16x64, .f32⟩
  | .local _ .vmem, ⟨9, _⟩ => ⟨S16x16x2, .f32⟩
  | _, _ => ⟨S16x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_280 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_279 : BitVec 32 := 2#32
  let v462 : BitVec 32 := Scalar.muli v6 c2_i32_279
  let v463 : BitVec 32 := Scalar.addi c0_i32_280 v462
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_281 : BitVec 32 := 1#32
  let v464 : BitVec 32 := Scalar.muli v5 c1_i32_281
  let v465 : BitVec 32 := Scalar.addi v463 v464
  v465.toNat
def k0_dev3 (d0 : Dev nD) : Nat :=
  let c0_i32_285 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_284 : BitVec 32 := 2#32
  let v470 : BitVec 32 := Scalar.muli v6 c2_i32_284
  let v471 : BitVec 32 := Scalar.addi c0_i32_285 v470
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_286 : BitVec 32 := 1#32
  let v472 : BitVec 32 := Scalar.muli v5 c1_i32_286
  let v473 : BitVec 32 := Scalar.addi v471 v472
  v473.toNat
abbrev stage0_0 : Fin 1 → Memref sig .tc .vmem S16x16x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S16x16x1x2048 : Shape := ⟨4, ![16, 16, 1, 2048]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S16x1x1x2048 : Shape := ⟨4, ![16, 1, 1, 2048]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 75
  | .vmem => 0
  | .smem => 0
  | _ => 0

abbrev bufTy : (tb : Table) → Fin (tcTables nBuf tb) → BufTy
  | .hbm, ⟨0, _⟩ => ⟨S16x1x16x64, .bf16⟩
  | .hbm, ⟨1, _⟩ => ⟨S256x16x16x64, .bf16⟩
  | .hbm, ⟨2, _⟩ => ⟨S256x16x16x64, .bf16⟩
  | .hbm, ⟨3, _⟩ => ⟨S16x128, .i32⟩
  | .hbm, ⟨4, _⟩ => ⟨S16, .i32⟩
  | .hbm, ⟨5, _⟩ => ⟨S256x16x16x64, .f32⟩
  | .hbm, ⟨6, _⟩ => ⟨S_, .i32⟩
  | .hbm, ⟨7, _⟩ => ⟨S16x128, .i32⟩
  | .hbm, ⟨8, _⟩ => ⟨S16x128, .i1⟩
  | .hbm, ⟨9, _⟩ => ⟨S_, .i32⟩
  | .hbm, ⟨10, _⟩ => ⟨S16x128, .i32⟩
  | .hbm, ⟨11, _⟩ => ⟨S16x128, .i32⟩
  | .hbm, ⟨12, _⟩ => ⟨S16x128, .i32⟩
  | .hbm, ⟨13, _⟩ => ⟨S16x128x1, .i32⟩
  | .hbm, ⟨14, _⟩ => ⟨S16x128x16x16x64, .f32⟩
  | .hbm, ⟨15, _⟩ => ⟨S16x2048x16x64, .f32⟩
  | .hbm, ⟨16, _⟩ => ⟨S256x16x16x64, .f32⟩
  | .hbm, ⟨17, _⟩ => ⟨S_, .i32⟩
  | .hbm, ⟨18, _⟩ => ⟨S16x128, .i32⟩
  | .hbm, ⟨19, _⟩ => ⟨S16x128, .i1⟩
  | .hbm, ⟨20, _⟩ => ⟨S_, .i32⟩
  | .hbm, ⟨21, _⟩ => ⟨S16x128, .i32⟩
  | .hbm, ⟨22, _⟩ => ⟨S16x128, .i32⟩
  | .hbm, ⟨23, _⟩ => ⟨S16x128, .i32⟩
  | .hbm, ⟨24, _⟩ => ⟨S16x128x1, .i32⟩
  | .hbm, ⟨25, _⟩ => ⟨S16x128x16x16x64, .f32⟩
  | .hbm, ⟨26, _⟩ => ⟨S16x2048x16x64, .f32⟩
  | .hbm, ⟨27, _⟩ => ⟨S16x1x16x64, .f32⟩
  | .hbm, ⟨28, _⟩ => ⟨S16x16x1x2048, .f32⟩
  | .hbm, ⟨29, _⟩ => ⟨S_, .f32⟩
  | .hbm, ⟨30, _⟩ => ⟨S16x16x1x2048, .f32⟩
  | .hbm, ⟨31, _⟩ => ⟨S16x16x1x2048, .f32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S16x1, .i32⟩
  | .hbm, ⟨53, _⟩ => ⟨S16x2048, .i32⟩
  | .hbm, ⟨54, _⟩ => ⟨S16x2048, .i32⟩
  | .hbm, ⟨55, _⟩ => ⟨S16x2048, .i1⟩
  | .hbm, ⟨56, _⟩ => ⟨S16x1x1x2048, .i1⟩
  | .hbm, ⟨57, _⟩ => ⟨S_, .f32⟩
  | .hbm, ⟨58, _⟩ => ⟨S_, .f32⟩
  | .hbm, ⟨59, _⟩ => ⟨S16x16x1x2048, .i1⟩
  | .hbm, ⟨60, _⟩ => ⟨S16x16x1x2048, .f32⟩
  | .hbm, ⟨61, _⟩ => ⟨S16x16x1x2048, .f32⟩
  | .hbm, ⟨62, _⟩ => ⟨S_, .f32⟩
  | .hbm, ⟨63, _⟩ => ⟨S16x16x1, .f32⟩
  | .hbm, ⟨64, _⟩ => ⟨S16x16x1x1, .f32⟩
  | .hbm, ⟨65, _⟩ => ⟨S16x16x1x2048, .f32⟩
  | .hbm, ⟨66, _⟩ => ⟨S16x16x1x2048, .f32⟩
  | .hbm, ⟨67, _⟩ => ⟨S16x16x1x2048, .f32⟩
  | .hbm, ⟨68, _⟩ => ⟨S_, .f32⟩
  | .hbm, ⟨69, _⟩ => ⟨S16x16x1, .f32⟩
  | .hbm, ⟨70, _⟩ => ⟨S16x16x1x1, .f32⟩
  | .hbm, ⟨71, _⟩ => ⟨S16x16x1x2048, .f32⟩
  | .hbm, ⟨72, _⟩ => ⟨S16x16x1x2048, .f32⟩
  | .hbm, ⟨73, _⟩ => ⟨S16x16x64x1, .f32⟩
  | .hbm, ⟨74, _⟩ => ⟨S16x1x16x64, .f32⟩
  | _, _ => ⟨S16x1x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩

abbrev nD : Nat := 1
abbrev τ : Topo := Topo.v7x

variable {F : FTy → Type} [FloatOps F]
-- ==== Proof.Protocol.lean ====
/- The exchange between a device and its peer along the first mesh axis, as a schedule of rounds.

   Every device raises the peer's barrier once, handing over its two landing buffers; waits for its own
   barrier; copies its two result buffers into the peer's landing buffers; waits for both copies to have left
   and for the peer's two to have arrived. One round, one duty for each of the five semaphores. What the two copies
   carry is a parameter: `so c` and `ss c` are what device `c` sends. -/
module

public import proofs.«01_k».proof.Proof.Gen.KernelIdeal.Frame
public import proofs.«01_k».proof.Proof.Gen.KernelIdeal.Skeleton
public import Idealize.ShloMosaic.Lib.Pipeline.RegionTalk
public import Idealize.ShloMosaic.Lib.Exec

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA Auth
open Cert.KernelIdeal Cert.KernelIdeal.Gen

variable {F : FTy → Type}

/-- The resource algebra: the pipeline library's copy and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The peer -/

/-- The device at the other place of the first mesh axis. -/
def pr (c : Dev nD) : Dev nD := (⟨(c.val % 2 + 2) - 2 * (c.val / 2), by have := c.isLt; unfold nD at *; omega⟩ : Fin nD)

theorem pr_pr (c : Dev nD) : pr (pr c) = c := by
  have := c.isLt
  apply Fin.ext
  unfold nD at this
  simp only [pr]
  omega

theorem dev1_eq (c : Dev nD) : (⟨k0_dev1 c, k0_dev1_lt c⟩ : Dev nD) = pr c := Fin.ext (k0_dev1_eq c)
theorem dev2_eq (c : Dev nD) : (⟨k0_dev2 c, k0_dev2_lt c⟩ : Dev nD) = pr c := Fin.ext (k0_dev2_eq c)
theorem dev3_eq (c : Dev nD) : (⟨k0_dev3 c, k0_dev3_lt c⟩ : Dev nD) = pr c := Fin.ext (k0_dev3_eq c)

/-- The exchange as a permutation of the devices. -/
def swap : Dev nD ≃ Dev nD := ⟨pr, pr, pr_pr, pr_pr⟩

/-! ## Cells and buffers -/

/-- The barrier semaphore; the semaphores that count the two copies out, and the two copies in. -/
abbrev barS : Sem sig := (SemArray.scalar (sig.barrier 0 rfl) : Sems sig S_).sem
abbrev outO : DmaSem sig := ((cc0_scratch4.slice (Rect.unit (s := S2) ![0] S1.size inb_S2_S1_0)).squeeze S_ squeezes_S1_S_).sem
abbrev outS : DmaSem sig := ((cc0_scratch4.slice (Rect.unit (s := S2) ![1] S1.size inb_S2_S1_1)).squeeze S_ squeezes_S1_S_).sem
abbrev inO : DmaSem sig := ((cc0_scratch5.slice (Rect.unit (s := S2) ![0] S1.size inb_S2_S1_0)).squeeze S_ squeezes_S1_S_).sem
abbrev inS : DmaSem sig := ((cc0_scratch5.slice (Rect.unit (s := S2) ![1] S1.size inb_S2_S1_1)).squeeze S_ squeezes_S1_S_).sem

abbrev barCell (c : Dev nD) : GSem nD τ sig := ((c : Thread nD τ), .reg barS)
abbrev outOCell (c : Dev nD) : GSem nD τ sig := ((c : Thread nD τ), .dma outO)
abbrev outSCell (c : Dev nD) : GSem nD τ sig := ((c : Thread nD τ), .dma outS)
abbrev inOCell (c : Dev nD) : GSem nD τ sig := ((c : Thread nD τ), .dma inO)
abbrev inSCell (c : Dev nD) : GSem nD τ sig := ((c : Thread nD τ), .dma inS)

/-- The kernel's own semaphores. -/
abbrev osem : Fin 4 → SemLoc sig := fun | 0 => .dma outO | 1 => .dma outS | 2 => .dma inO | 3 => .dma inS

theorem osem_inj : Function.Injective osem := by decide
theorem osem_ne_bar : ∀ k : Fin 4, osem k ≠ .reg barS := by decide

/-- Buffer `b` of device `c`, whole, at contents `f`. -/
abbrev pt (c : Dev nD) (b : Ref sig .tc) (f : b.ty.Contents (Elt F)) : sProp 𝕄 := ((Memref.whole b).view.loc (c : Thread nD τ)) ↦{fullShare} f

/-- The same through the whole memref. -/
theorem pt_view (c : Dev nD) (b : Ref sig .tc) (f : b.ty.Contents (Elt F)) :
    (((Memref.whole b).view.loc (c : Thread nD τ) ↦[(Memref.whole b).view.set]{fullShare} f) : sProp 𝕄) = pt c b f := by
  rw [show (Memref.whole b).view.set = Finset.univ from View.set_whole _]

/-- The sizes of the two copies. -/
abbrev NO : ℕ := (Memref.whole cc0_scratch2 : Memref sig .tc .vmem S16x16x64 .f32).view.dmaCredit
abbrev NS : ℕ := (Memref.whole cc0_scratch3 : Memref sig .tc .vmem S16x16x2 .f32).view.dmaCredit
theorem NO_pos : 0 < NO := View.dmaCredit_pos _ (by decide)
theorem NS_pos : 0 < NS := View.dmaCredit_pos _ (by decide)

/-! ## The schedule -/

/- What the two copies carry from device `c`. -/
variable (so : Dev nD → FVec F S16x16x64 .f32) (ss : Dev nD → FVec F S16x16x2 .f32)

/-- Handed over with the barrier: the sender's two landing buffers, and that round 0 of its two arrival cells is reached. -/
def barPay (c : Dev nD) : sProp 𝕄 :=
  iprop((∃ f, pt (pr c) cc0_scratch2 f) ∗ (∃ f, pt (pr c) cc0_scratch3 f) ∗ reached ER (inOCell (pr c)) 0 ∗ reached ER (inSCell (pr c)) 0)
/-- A copy that left gives its source back; one that arrived gives the landing buffer, at what the peer sent. -/
def outOPay (c : Dev nD) : sProp 𝕄 := pt c cc0_scratch0 (so c)
def outSPay (c : Dev nD) : sProp 𝕄 := pt c cc0_scratch1 (ss c)
def inOPay (c : Dev nD) : sProp 𝕄 := pt c cc0_scratch2 (so (pr c))
def inSPay (c : Dev nD) : sProp 𝕄 := pt c cc0_scratch3 (ss (pr c))

/-- One duty in round 0 of each of the five cells of every device. -/
def talkRd : Rounds.Schedule (GSem nD τ sig) Unit 𝕄 where
  duties g r := if r = 0 ∧ g.1.2 = .tc ∧ (g.2 = .reg barS ∨ ∃ k, g.2 = osem k) then {()} else ∅
  unitless _ := False
  amount g _ _ := if g.2 = .reg barS then 1 else if g.2 = .dma outO ∨ g.2 = .dma inO then NO else NS
  payload g _ _ :=
    if g.2 = .reg barS then barPay g.1.1
    else if g.2 = .dma outO then outOPay so g.1.1
    else if g.2 = .dma outS then outSPay ss g.1.1
    else if g.2 = .dma inO then inOPay so g.1.1
    else if g.2 = .dma inS then inSPay ss g.1.1
    else iprop(emp)
  amount_pos g _ _ _ := by
    by_cases h : g.2 = .reg barS
    · rw [if_pos h]; exact Nat.one_pos
    · rw [if_neg h]; split
      · exact NO_pos
      · exact NS_pos

instance talkRd_payload_storable (g : GSem nD τ sig) (r : ℕ) (d : Unit) :
    BI.Storable (upEmb : UEmb _ 𝕄) ((talkRd (F := F) so ss).payload g r d) := by
  show BI.Storable upEmb (if g.2 = .reg barS then barPay g.1.1
    else if g.2 = .dma outO then outOPay so g.1.1
    else if g.2 = .dma outS then outSPay ss g.1.1
    else if g.2 = .dma inO then inOPay so g.1.1
    else if g.2 = .dma inS then inSPay ss g.1.1
    else iprop(emp))
  unfold barPay outOPay outSPay inOPay inSPay
  (repeat' split) <;> infer_instance

section Sched

variable (c : Dev nD)

theorem dma_ne_bar (s : DmaSem sig) : (SemLoc.dma s : SemLoc sig) ≠ .reg barS := fun h => by cases h

theorem duties_bar : (talkRd so ss).duties (barCell c) 0 = {()} := by dsimp only [talkRd]; exact if_pos ⟨rfl, rfl, .inl rfl⟩
theorem duties_outO : (talkRd so ss).duties (outOCell c) 0 = {()} := by dsimp only [talkRd]; exact if_pos ⟨rfl, rfl, .inr ⟨0, rfl⟩⟩
theorem duties_outS : (talkRd so ss).duties (outSCell c) 0 = {()} := by dsimp only [talkRd]; exact if_pos ⟨rfl, rfl, .inr ⟨1, rfl⟩⟩
theorem duties_inO : (talkRd so ss).duties (inOCell c) 0 = {()} := by dsimp only [talkRd]; exact if_pos ⟨rfl, rfl, .inr ⟨2, rfl⟩⟩
theorem duties_inS : (talkRd so ss).duties (inSCell c) 0 = {()} := by dsimp only [talkRd]; exact if_pos ⟨rfl, rfl, .inr ⟨3, rfl⟩⟩
theorem duties_later (g : GSem nD τ sig) : ∀ r, 1 ≤ r → (talkRd so ss).duties g r = ∅ :=
  fun r hr => by dsimp only [talkRd]; rw [if_neg (fun h => by omega)]

theorem amount_bar (u : Unit) : (talkRd so ss).amount (barCell c) 0 u = 1 := by dsimp only [talkRd]; exact if_pos rfl
theorem amount_outO (u : Unit) : (talkRd so ss).amount (outOCell c) 0 u = NO := by
  dsimp only [talkRd]; rw [if_neg (dma_ne_bar _), if_pos (.inl rfl)]
theorem amount_inO (u : Unit) : (talkRd so ss).amount (inOCell c) 0 u = NO := by
  dsimp only [talkRd]; rw [if_neg (dma_ne_bar _), if_pos (.inr rfl)]
theorem amount_outS (u : Unit) : (talkRd so ss).amount (outSCell c) 0 u = NS := by
  dsimp only [talkRd]; rw [if_neg (dma_ne_bar _), if_neg (by decide)]
theorem amount_inS (u : Unit) : (talkRd so ss).amount (inSCell c) 0 u = NS := by
  dsimp only [talkRd]; rw [if_neg (dma_ne_bar _), if_neg (by decide)]

theorem expect_of {g : GSem nD τ sig} {n : ℕ} (hd : (talkRd so ss).duties g 0 = {()}) (ha : ∀ u, (talkRd so ss).amount g 0 u = n) :
    (talkRd so ss).expect g 0 = n := by
  unfold Schedule.expect Schedule.amountOf; rw [hd, Finset.sum_singleton, ha]

theorem expect_bar : (talkRd so ss).expect (barCell c) 0 = 1 := expect_of so ss (duties_bar so ss c) (amount_bar so ss c)
theorem expect_outO : (talkRd so ss).expect (outOCell c) 0 = NO := expect_of so ss (duties_outO so ss c) (amount_outO so ss c)
theorem expect_outS : (talkRd so ss).expect (outSCell c) 0 = NS := expect_of so ss (duties_outS so ss c) (amount_outS so ss c)
theorem expect_inO : (talkRd so ss).expect (inOCell c) 0 = NO := expect_of so ss (duties_inO so ss c) (amount_inO so ss c)
theorem expect_inS : (talkRd so ss).expect (inSCell c) 0 = NS := expect_of so ss (duties_inS so ss c) (amount_inS so ss c)

theorem payload_bar (u : Unit) : (talkRd so ss).payload (barCell c) 0 u = barPay c := by dsimp only [talkRd]; exact if_pos rfl
theorem payload_outO (u : Unit) : (talkRd so ss).payload (outOCell c) 0 u = outOPay so c := by
  dsimp only [talkRd]; rw [if_neg (dma_ne_bar _), if_pos rfl]
theorem payload_outS (u : Unit) : (talkRd so ss).payload (outSCell c) 0 u = outSPay ss c := by
  dsimp only [talkRd]; rw [if_neg (dma_ne_bar _), if_neg (by decide), if_pos rfl]
theorem payload_inO (u : Unit) : (talkRd so ss).payload (inOCell c) 0 u = inOPay so c := by
  dsimp only [talkRd]; rw [if_neg (dma_ne_bar _), if_neg (by decide), if_neg (by decide), if_pos rfl]
theorem payload_inS (u : Unit) : (talkRd so ss).payload (inSCell c) 0 u = inSPay ss c := by
  dsimp only [talkRd]; rw [if_neg (dma_ne_bar _), if_neg (by decide), if_neg (by decide), if_neg (by decide), if_pos rfl]

/-- What a wait that takes all of round 0 is handed: the one duty's payload. -/
theorem rest_of {g : GSem nD τ sig} {P : sProp 𝕄} (hd : (talkRd so ss).duties g 0 = {()}) (hp : ∀ u, (talkRd so ss).payload g 0 u = P) :
    bigSep ((talkRd so ss).duties g 0 \ ∅) (fun u => (talkRd so ss).payload g 0 u) = P := by
  rw [Finset.sdiff_empty, hd, bigSep_singleton, hp]

end Sched

/-! ## What each core owes at launch; the levels -/

/-- What device `c` still owes once its barrier signal is out: the peer's two arrivals. -/
def O₁ (c : Dev nD) : CellTallies nD τ sig Unit := tallyAt (inSCell (pr c)) () NS + tallyAt (inOCell (pr c)) () NO
/-- What it owes at launch: those and the peer's barrier unit. -/
def O₀ (c : Dev nD) : CellTallies nD τ sig Unit := O₁ c + tallyAt (barCell (pr c)) () 1

def L (g : GSem nD τ sig) : Finset Unit := if g.1.2 = .tc then {()} else ∅
/-- Barrier cells at 1, arrival cells at 2, the rest at 0. -/
def lv (g : GSem nD τ sig) (_ : Unit) : ℕ := if g.2 = .reg barS then 1 else if g.2 = .dma inO ∨ g.2 = .dma inS then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_inO (c : Dev nD) : lv (inOCell c) () = 2 := by unfold lv; rw [if_neg (dma_ne_bar _), if_pos (.inl rfl)]
theorem lv_inS (c : Dev nD) : lv (inSCell c) () = 2 := by unfold lv; rw [if_neg (dma_ne_bar _), if_pos (.inr rfl)]

theorem tally_pos {g g' : GSem nD τ sig} {n : ℕ} {u : Unit} (h : 0 < (tallyAt g' () n : CellTallies nD τ sig Unit) g u) : g = g' := by
  rw [tallyAt_apply] at h
  split at h
  · next hg => exact hg.1
  · exact absurd h (Nat.lt_irrefl 0)

theorem O₁_pos {c : Dev nD} {g : GSem nD τ sig} {u : Unit} (h : 0 < O₁ c g u) : g = inSCell (pr c) ∨ g = inOCell (pr c) := by
  unfold O₁ at h
  rw [Pi.add_apply, Finsupp.add_apply] at h
  exact (Nat.add_pos_iff_pos_or_pos.mp h).imp tally_pos tally_pos

theorem O₀_pos {c : Dev nD} {g : GSem nD τ sig} {u : Unit} (h : 0 < O₀ c g u) : g = inSCell (pr c) ∨ g = inOCell (pr c) ∨ g = barCell (pr c) := by
  unfold O₀ at h
  rw [Pi.add_apply, Finsupp.add_apply] at h
  rcases Nat.add_pos_iff_pos_or_pos.mp h with h | h
  · exact (O₁_pos h).imp id .inl
  · exact .inr (.inr (tally_pos h))

theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> rw [L_tc] <;> exact Finset.mem_singleton_self _)
    (fun p hp => by rw [Finset.mem_singleton.mp hp]; exact (lv_bar c).le)
    (fun g u hg => by
      rcases O₁_pos hg with rfl | rfl
      · rw [lv_inS]; decide
      · rw [lv_inO]; decide)

/-! ## The exchange's ghost state -/

/-- The invariants device `c` opens, at the names `K` they were allocated at: its own five, and the peer's barrier and arrival cells. -/
def invs (K : GSem nD τ sig → ℕ) (c : Dev nD) : sProp 𝕄 :=
  iprop(cellInv ER (talkRd so ss) (K (barCell c)) (barCell c) ∗ cellInv ER (talkRd so ss) (K (outOCell c)) (outOCell c)
    ∗ cellInv ER (talkRd so ss) (K (outSCell c)) (outSCell c) ∗ cellInv ER (talkRd so ss) (K (inOCell c)) (inOCell c)
    ∗ cellInv ER (talkRd so ss) (K (inSCell c)) (inSCell c) ∗ cellInv ER (talkRd so ss) (K (barCell (pr c))) (barCell (pr c))
    ∗ cellInv ER (talkRd so ss) (K (inOCell (pr c))) (inOCell (pr c)) ∗ cellInv ER (talkRd so ss) (K (inSCell (pr c))) (inSCell (pr c)))

instance invs_persistent (K : GSem nD τ sig → ℕ) (c : Dev nD) : BI.Persistent (invs so ss K c) := by unfold invs; infer_instance

/-- The tokens of the five duties device `c` discharges. -/
def payToks (c : Dev nD) : sProp 𝕄 :=
  iprop(dutyTok ER (barCell (pr c)) 0 () ∗ dutyTok ER (outOCell c) 0 () ∗ dutyTok ER (outSCell c) 0 ()
    ∗ dutyTok ER (inOCell (pr c)) 0 () ∗ dutyTok ER (inSCell (pr c)) 0 ())

/-- From launch to the kernel: the position on its barrier cell, the right to open its four own cells. -/
def ghost (K : GSem nD τ sig → ℕ) (c : Dev nD) : sProp 𝕄 :=
  iprop(invs so ss K c ∗ atPos ER (barCell c) 0 ∅ 0
    ∗ (openTok ER (outOCell c) ∗ openTok ER (outSCell c) ∗ openTok ER (inOCell c) ∗ openTok ER (inSCell c))
    ∗ reached ER (barCell (pr c)) 0 ∗ payToks c)

/-- Inside the kernel: all five cells open at round 0. -/
def opened (K : GSem nD τ sig → ℕ) (c : Dev nD) : sProp 𝕄 :=
  iprop(invs so ss K c ∗ atPos ER (barCell c) 0 ∅ 0
    ∗ (atPos ER (outOCell c) 0 ∅ 0 ∗ atPos ER (outSCell c) 0 ∅ 0 ∗ atPos ER (inOCell c) 0 ∅ 0 ∗ atPos ER (inSCell c) 0 ∅ 0)
    ∗ (reached ER (outOCell c) 0 ∗ reached ER (outSCell c) 0 ∗ reached ER (inOCell c) 0 ∗ reached ER (inSCell c) 0)
    ∗ reached ER (barCell (pr c)) 0 ∗ payToks c)

/-- The credit device `c` waits with, handed out at launch. -/
def credits (c : Dev nD) : sProp 𝕄 :=
  iprop(cred (tallyAt (barCell c) () 1) ∗ cred (tallyAt (inOCell c) () NO) ∗ cred (tallyAt (inSCell c) () NS))

theorem close (κ : ℕ) (g : GSem nD τ sig) :
    iprop(cellInv ER (talkRd so ss) κ g ∗ atPos ER g (0 + 1) ∅ 0) ⊢ (|={Set.univ}=> semVal g 0 : sProp 𝕄) :=
  Rounds.cell_close ER (talkRd so ss) (Set.mem_univ κ) id (duties_later so ss g)

abbrev 𝒱₀ : Variants := Variants.none

end Cert.KernelIdeal.Talk

end
-- ==== Proof.Steps.lean ====
/- One wait and one copy of the exchange, at any continuation. -/
module

public import proofs.«01_k».proof.Proof.Protocol

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA Auth
open Cert.KernelIdeal Cert.KernelIdeal.Gen

variable {F : FTy → Type} [FloatOps F] [Named F]
local notation "𝕄" => MT nD τ sig Unit (Elt F) ℕ UU ℕ

variable (so : Dev nD → FVec F S16x16x64 .f32) (ss : Dev nD → FVec F S16x16x2 .f32)

/-- A wait for a copy's semaphore `s` of device `c`, which takes the cell's one round and is handed its payload `P`. -/
theorem wait_run (κ : ℕ) (c : Dev nD) (s : DmaSem sig) {sp sp' : Space} {s₁ s₂ : Shape} {e₁ e₂ : EltTy} {src : Memref sig .tc sp' s₁ e₁} {dst : Memref sig .tc sp s₂ e₂}
    {h₁ : src.view.WordExact} {h₂ : dst.view.WordExact} {n : ℕ} {P : sProp 𝕄} (hn : dst.view.dmaCredit = n)
    (hd : (talkRd so ss).duties ((c : Thread nD τ), .dma s) 0 = {()}) (hx : (talkRd so ss).expect ((c : Thread nD τ), .dma s) 0 = n)
    (hp : ∀ u, (talkRd so ss).payload ((c : Thread nD τ), .dma s) 0 u = P) (W : Waits sig Unit)
    {α : Type} {k : PUnit → Prog (TpuEff nD τ sig (Elt F) Λ₀ .tc) α} {Kt : α → sProp 𝕄} :
    iprop(cellInv ER (talkRd so ss) κ ((c : Thread nD τ), .dma s) ∗ cred (tallyAt ((c : Thread nD τ), SemLoc.dma s) () n) ∗ owes (c : Thread nD τ) 0 W
        ∗ atPos ER ((c : Thread nD τ), SemLoc.dma s) 0 ∅ 0
        ∗ (owes (c : Thread nD τ) 0 (insert (SemLoc.dma s, ()) W) -∗ atPos ER ((c : Thread nD τ), SemLoc.dma s) 1 ∅ 0 -∗ P
            -∗ wp frame (wpE (defs₀ (F := F)) 𝒱₀ c none) Set.univ (k ⟨⟩) Kt))
      ⊢ wp frame (wpE (defs₀ (F := F)) 𝒱₀ c none) Set.univ (.op (.waitDma2 s src dst h₁ h₂) k) Kt := by
  subst hn
  iintro ⟨#HI, Hc, HO, Hat, Hk⟩
  iapply (Rounds.wp_wait_rest_token 𝒱₀ ER (talkRd so ss) (c : Thread nD τ) none (κ := κ)
      (wpE_waitDma2_eq 𝒱₀ (c : Thread nD τ) none Set.univ) (Set.mem_univ _) () (O := 0) (W := W) (R := 0) (m := 0) (T := ∅)
      ((Nat.zero_add _).trans hx.symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_of so ss hd hp)) $$ Hpay
  iapply Hk $$ HO Hat Hp

/-- A copy to the peer: its source's share goes to the cell that counts it out, its landed contents to the peer's arrival cell. -/
theorem send_run (κ₁ κ₂ : ℕ) (c d : Dev nD) (hd : d = pr c) (sS sR : DmaSem sig) {sp sp' : Space} {s : Shape} {e : EltTy} {src : Memref sig .tc sp s e} {dst : Memref sig .tc sp' s e}
    {hsc : dst.view.ref.isScScratch = false}
    {h₁ : src.view.WordExact} {h₂ : dst.view.WordExact} {h₃ : DmaTarget.Typed (nD := nD) (τ := τ) sp (.dma sR) (.remote (Dev.tc d) dst (.dma sS) hsc)}
    {n : ℕ} (hn : dst.view.dmaCredit = n)
    (hd₁ : (talkRd so ss).duties ((c : Thread nD τ), .dma sS) 0 = {()}) (hd₂ : (talkRd so ss).duties ((pr c : Thread nD τ), .dma sR) 0 = {()})
    (ha₁ : (talkRd so ss).amount ((c : Thread nD τ), .dma sS) 0 () = n) (ha₂ : (talkRd so ss).amount ((pr c : Thread nD τ), .dma sR) 0 () = n)
    (fs : Buf (Elt F) (src.view.loc (c : Thread nD τ))) (fd : Buf (Elt F) (dst.view.loc (pr c : Thread nD τ)))
    {O₀ : CellTallies nD τ sig Unit} (O : CellTallies nD τ sig Unit) (hO : O₀ = O + tallyAt ((pr c : Thread nD τ), SemLoc.dma sR) () n) {W : Waits sig Unit}
    (hp₁ : (src.view.loc (c : Thread nD τ) ↦[src.view.set]{fullShare} fs : sProp 𝕄) ⊢ (talkRd so ss).payload ((c : Thread nD τ), .dma sS) 0 ())
    (hp₂ : (dst.view.loc (pr c : Thread nD τ) ↦[dst.view.set]{fullShare} (dst.view.write (Elt F) fd (src.view.read (Elt F) fs) Finset.univ) : sProp 𝕄)
      ⊢ (talkRd so ss).payload ((pr c : Thread nD τ), .dma sR) 0 ())
    {α : Type} {k : PUnit → Prog (TpuEff nD τ sig (Elt F) Λ₀ .tc) α} {Kt : α → sProp 𝕄} :
    iprop(cellInv ER (talkRd so ss) κ₁ ((c : Thread nD τ), .dma sS) ∗ cellInv ER (talkRd so ss) κ₂ ((pr c : Thread nD τ), .dma sR)
        ∗ (src.view.loc (c : Thread nD τ) ↦[src.view.set]{fullShare} fs) ∗ (dst.view.loc (pr c : Thread nD τ) ↦[dst.view.set]{fullShare} fd)
        ∗ owes (c : Thread nD τ) O₀ W
        ∗ dutyTok ER ((c : Thread nD τ), SemLoc.dma sS) 0 () ∗ reached ER ((c : Thread nD τ), SemLoc.dma sS) 0
        ∗ dutyTok ER ((pr c : Thread nD τ), SemLoc.dma sR) 0 () ∗ reached ER ((pr c : Thread nD τ), SemLoc.dma sR) 0
        ∗ (cred (tallyAt ((c : Thread nD τ), SemLoc.dma sS) () n) -∗ owes (c : Thread nD τ) O W
            -∗ wp frame (wpE (defs₀ (F := F)) 𝒱₀ c none) Set.univ (k ⟨⟩) Kt))
      ⊢ wp frame (wpE (defs₀ (F := F)) 𝒱₀ c none) Set.univ (.op (.enqueueDma src (.remote (Dev.tc d) dst (.dma sS) hsc) (.dma sR) h₁ h₂ h₃) k) Kt := by
  subst hd
  iintro ⟨HI₁, HI₂, Hs, Hd, HO, Ht₁, Hr₁, Ht₂, Hr₂, Hk⟩
  iapply (Rounds.wp_send_pointsTo 𝒱₀ ER (talkRd so ss) (c : Thread nD τ) none (c' := (pr c : Thread nD τ)) (src := src) (dst := dst)
    (sS := .dma sS) (sem := .dma sR) (q := fullShare) (fs := fs) (κ₁ := κ₁) (κ₂ := κ₂)
    (r₁ := 0) (r₂ := 0) (d₁ := ()) (d₂ := ()) (fd := fd) (by rw [hd₁]; exact Finset.mem_singleton_self _) (by rw [hd₂]; exact Finset.mem_singleton_self _)
    () () n hn ha₁ ha₂ O hO (W := W) hp₁ hp₂) $$ [HI₁ HI₂ Hs Hd HO Ht₁ Hr₁ Ht₂ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk $$ Hc HO

end Cert.KernelIdeal.Talk

end
-- ==== Proof.Parts.lean ====
module

public import proofs.«01_k».proof.Proof.Steps
public import Idealize.ShloMosaic.Lib.VecWindow

@[expose] public section

/-!
The parts of the kernel's body that talk to the peer: the barrier with the first payload, the two sends, the waits for
what the peer sends, and the merge of the two devices' results.
-/

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA Auth
open Cert.KernelIdeal Cert.KernelIdeal.Gen

variable {F : FTy → Type} [FloatOps F] [Named F]
local notation "𝕄" => MT nD τ sig Unit (Elt F) ℕ UU ℕ

variable (so : Dev nD → FVec F S16x16x64 .f32) (ss : Dev nD → FVec F S16x16x2 .f32)

/-- What the body holds when it starts. -/
def bodyPre (K : GSem nD τ sig → ℕ) (c : Dev nD) (W : Waits sig Unit) (x0 : FVec F S16x16x64 .bf16) (x1 x2 : FVec F S16x2048x64 .bf16) (x3 : IVec S16x128 32)
    (x4 : IVec S16x1 32) : sProp 𝕄 :=
  iprop(opened so ss K c ∗ credits c ∗ levAts L lv
    ∗ pt c cc0_stg0_0 x0 ∗ pt c cc0_stg1_0 x1 ∗ pt c cc0_stg2_0 x2 ∗ pt c cc0_stg3_0 x3 ∗ pt c cc0_stg4_0 x4
    ∗ (∃ f, pt c cc0_stg5_0 f) ∗ (∃ f, pt c cc0_scratch0 f) ∗ (∃ f, pt c cc0_scratch1 f) ∗ (∃ f, pt c cc0_scratch2 f) ∗ (∃ f, pt c cc0_scratch3 f)
    ∗ owes (c : Thread nD τ) (O₀ c) W)

/-- What a device makes of its own two result buffers and the peer's. -/
def merged (o : FVec F S16x16x64 .f32) (s : FVec F S16x16x2 .f32) (o' : FVec F S16x16x64 .f32) (s' : FVec F S16x16x2 .f32) : FVec F S16x16x64 .f32 :=
  k0_pay89 (VecWindow.window s ![0, 0, 0] S16x16x1.size inb_S16x16x2_S16x16x1_0_0_0) (VecWindow.window s ![0, 0, 1] S16x16x1.size inb_S16x16x2_S16x16x1_0_0_1)
    (VecWindow.window s' ![0, 0, 0] S16x16x1.size inb_S16x16x2_S16x16x1_0_0_0) (VecWindow.window s' ![0, 0, 1] S16x16x1.size inb_S16x16x2_S16x16x1_0_0_1) o o'

/-- The barrier: the peer's is raised, with the own landing buffers handed over; the wait on the own one brings the peer's. -/
theorem barrier_run (K : GSem nD τ sig → ℕ) (c d : Dev nD) (hd : d = pr c) (W : Waits sig Unit) {α : Type} (k : Prog (TpuEff nD τ sig (Elt F) Λ₀ .tc) α)
    (Kt : α → sProp 𝕄) :
    iprop(cellInv ER (talkRd so ss) (K (barCell c)) (barCell c) ∗ cellInv ER (talkRd so ss) (K (barCell (pr c))) (barCell (pr c))
      ∗ atPos ER (barCell c) 0 ∅ 0 ∗ reached ER (inOCell c) 0 ∗ reached ER (inSCell c) 0 ∗ reached ER (barCell (pr c)) 0
      ∗ dutyTok ER (barCell (pr c)) 0 () ∗ cred (tallyAt (barCell c) () 1) ∗ levAts L lv
      ∗ (∃ f, pt c cc0_scratch2 f) ∗ (∃ f, pt c cc0_scratch3 f) ∗ owes (c : Thread nD τ) (O₀ c) W
      ∗ (atPos ER (barCell c) 1 ∅ 0 -∗ (∃ f, pt (pr c) cc0_scratch2 f) -∗ (∃ f, pt (pr c) cc0_scratch3 f)
          -∗ reached ER (inOCell (pr c)) 0 -∗ reached ER (inSCell (pr c)) 0
          -∗ owes (c : Thread nD τ) (O₁ c) (insert (SemLoc.reg barS, ()) W)
          -∗ wp frame (wpE (defs₀ (F := F)) 𝒱₀ c none) Set.univ k Kt))
      ⊢ wp frame (wpE (defs₀ (F := F)) 𝒱₀ c none) Set.univ (semSignalWord d barS 1#32 >>= fun _ => semWaitWord barS 1#32 >>= fun _ => k) Kt := by
  subst hd
  simp only [semSignalWord, semWaitWord, Prog.bind_op, Prog.bind_ret]
  iintro ⟨#HIbar, #HIbarP, HatB, #HriO, #HriS, #HrP, HtB, HcB, #Hlev, G2, G3, HO, Hk⟩
  iapply (Rounds.wp_signal 𝒱₀ ER (talkRd so ss) (c : Thread nD τ) none (dst := (pr c : Thread nD τ)) (sem := barS) (r := 0) (d := ()) (κ := K (barCell (pr c)))
      (by rw [duties_bar]; exact Finset.mem_singleton_self _) (amount_bar so ss (pr c) ()) () (O₁ c) rfl)
    $$ [HO HtB G2 G3]
  · isplitr; · iexact HIbarP
    isplitl [HO]; · iexact HO
    isplitl [HtB]; · iexact HtB
    isplitl [G2 G3]
    · rw [payload_bar]; unfold barPay; rw [pr_pr]
      isplitl [G2]; · iexact G2
      isplitl [G3]; · iexact G3
      isplitr; · iexact HriO
      iexact HriS
    · iexact HrP
  iintro HO
  iapply (Rounds.wp_wait_rest_token 𝒱₀ ER (talkRd so ss) (c : Thread nD τ) none (κ := K (barCell c))
      (wpE_semWait_eq 𝒱₀ (c : Thread nD τ) none Set.univ) (Set.mem_univ _) () (O := O₁ c) (W := W) (R := 0) (m := 0) (T := ∅)
      ((Nat.zero_add 1).trans (expect_bar so ss c).symm)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_of so ss (duties_bar so ss c) (payload_bar so ss c))) $$ Hpay
  unfold barPay
  icases Hp with ⟨N2, N3, HrO, HrS⟩
  iapply Hk $$ HatB N2 N3 HrO HrS HO

/-- The first part of the body: the barrier, then the loads of the page table and the lengths. -/
theorem part1_run (K : GSem nD τ sig → ℕ) (c : Dev nD) (W : Waits sig Unit) (x3 : IVec S16x128 32) (x4 : IVec S16x1 32)
    (a0 : Memref sig .tc .vmem S16x16x64 .bf16) (ha0 : a0.IsWhole) (a1 : Memref sig .tc .vmem S16x2048x64 .bf16) (ha1 : a1.IsWhole)
    (a2 : Memref sig .tc .vmem S16x2048x64 .bf16) (ha2 : a2.IsWhole) (a5 : Memref sig .tc .vmem S16x16x64 .f32) (ha5 : a5.IsWhole)
    (a6 : Memref sig .tc .vmem S16x16x64 .f32) (ha6 : a6.IsWhole) (a7 : Memref sig .tc .vmem S16x16x2 .f32) (ha7 : a7.IsWhole)
    (a8 : Memref sig .tc .vmem S16x16x64 .f32) (ha8 : a8.IsWhole) (a9 : Memref sig .tc .vmem S16x16x2 .f32) (ha9 : a9.IsWhole)
    (a10 a11 : DmaSems sig S2)
    (Kt : (Σ' (d0 : Dev nD) (v5 : BitVec 32) (v6 : BitVec 32) (v36 : FVec F S16x128 .bf16), IVec S128x2048 32) → sProp 𝕄) :
    iprop(cellInv ER (talkRd so ss) (K (barCell c)) (barCell c) ∗ cellInv ER (talkRd so ss) (K (barCell (pr c))) (barCell (pr c))
      ∗ atPos ER (barCell c) 0 ∅ 0 ∗ reached ER (inOCell c) 0 ∗ reached ER (inSCell c) 0 ∗ reached ER (barCell (pr c)) 0
      ∗ dutyTok ER (barCell (pr c)) 0 () ∗ cred (tallyAt (barCell c) () 1) ∗ levAts L lv
      ∗ (∃ f, pt c cc0_scratch2 f) ∗ (∃ f, pt c cc0_scratch3 f) ∗ owes (c : Thread nD τ) (O₀ c) W
      ∗ pt c cc0_stg3_0 x3 ∗ pt c cc0_stg4_0 x4
      ∗ (atPos ER (barCell c) 1 ∅ 0 -∗ (∃ f, pt (pr c) cc0_scratch2 f) -∗ (∃ f, pt (pr c) cc0_scratch3 f)
          -∗ reached ER (inOCell (pr c)) 0 -∗ reached ER (inSCell (pr c)) 0
          -∗ owes (c : Thread nD τ) (O₁ c) (insert (SemLoc.reg barS, ()) W)
          -∗ pt c cc0_stg3_0 x3 -∗ pt c cc0_stg4_0 x4
          -∗ (∀ v5 v6, Kt ⟨c, v5, v6, k0_pay1 c x3 x4, iota .tc S128x2048 32 [1] iota_S128x2048_d1_w32⟩)))
      ⊢ wp frame (wpE (defs₀ (F := F)) 𝒱₀ c none) Set.univ (k0_part1 a0 ha0 a1 ha1 a2 ha2 (Memref.whole cc0_stg3_0) (Memref.isWhole_whole _) (Memref.whole cc0_stg4_0)
          (Memref.isWhole_whole _) a5 ha5 a6 ha6 a7 ha7 a8 ha8 a9 ha9 a10 a11) Kt := by
  rw [k0_part1_eq_skeleton]
  unfold k0_part1_skel
  simp only [Prog.lift, Prog.bind_op, Prog.bind_ret, wp_deviceId]
  refine BIBase.Entails.trans ?_ (barrier_run so ss K c _ (dev1_eq c) W _ _)
  iintro ⟨HIbar, HIbarP, HatB, HriO, HriS, HrP, HtB, HcB, Hlev, G2, G3, HO, H3, H4, Hk⟩
  isplitl [HIbar]; · iexact HIbar
  isplitl [HIbarP]; · iexact HIbarP
  isplitl [HatB]; · iexact HatB
  isplitl [HriO]; · iexact HriO
  isplitl [HriS]; · iexact HriS
  isplitl [HrP]; · iexact HrP
  isplitl [HtB]; · iexact HtB
  isplitl [HcB]; · iexact HcB
  isplitl [Hlev]; · iexact Hlev
  isplitl [G2]; · iexact G2
  isplitl [G3]; · iexact G3
  isplitl [HO]; · iexact HO
  iintro HatB N2 N3 HrO HrS HO
  sl_exec
  have e3 : View.readAt (Elt F) (Memref.whole cc0_stg3_0).view (Rect.unit (s := S16x128) ![0, 0] ![16, 128] inb_S16x128_S16x128_0_0).toLoadRect x3 = x3 :=
    Memref.readAt_unit_zero (Elt F) cc0_stg3_0 (by decide) inb_S16x128_S16x128_0_0 x3
  have e4 : View.readAt (Elt F) (Memref.whole cc0_stg4_0).view (Rect.unit (s := S16x1) ![0, 0] ![16, 1] inb_S16x1_S16x1_0_0).toLoadRect x4 = x4 :=
    Memref.readAt_unit_zero (Elt F) cc0_stg4_0 (by decide) inb_S16x1_S16x1_0_0 x4
  rw [e3, e4, wp_ret]
  imodintro
  iapply Hk $$ HatB N2 N3 HrO HrS HO H3 H4

/-- The peer's first landing buffer, once the copy has landed, holds what was sent. -/
theorem landedO (fd : (cc0_scratch2 : Ref sig .tc).ty.Contents (Elt F)) (fs : (cc0_scratch0 : Ref sig .tc).ty.Contents (Elt F)) :
    (Memref.whole cc0_scratch2 : Memref sig .tc .vmem S16x16x64 .f32).view.write (Elt F) fd
      ((Memref.whole cc0_scratch0 : Memref sig .tc .vmem S16x16x64 .f32).view.read (Elt F) fs) Finset.univ = fs := by
  show (View.whole cc0_scratch2).write (Elt F) fd ((View.whole cc0_scratch0).read (Elt F) fs) Finset.univ = fs
  rw [View.read_whole]
  exact View.write_whole_univ _ _ _

/-- So does the second. -/
theorem landedS (fd : (cc0_scratch3 : Ref sig .tc).ty.Contents (Elt F)) (fs : (cc0_scratch1 : Ref sig .tc).ty.Contents (Elt F)) :
    (Memref.whole cc0_scratch3 : Memref sig .tc .vmem S16x16x2 .f32).view.write (Elt F) fd
      ((Memref.whole cc0_scratch1 : Memref sig .tc .vmem S16x16x2 .f32).view.read (Elt F) fs) Finset.univ = fs := by
  show (View.whole cc0_scratch3).write (Elt F) fd ((View.whole cc0_scratch1).read (Elt F) fs) Finset.univ = fs
  rw [View.read_whole]
  exact View.write_whole_univ _ _ _

/-- The copies leave as much as they bring. -/
theorem creditO : (Memref.whole cc0_scratch0 : Memref sig .tc .vmem S16x16x64 .f32).view.dmaCredit = NO := by decide
theorem creditS : (Memref.whole cc0_scratch1 : Memref sig .tc .vmem S16x16x2 .f32).view.dmaCredit = NS := by decide

/-- The copies leave: the last two stores, both transfers, and the wait for the first to have left. -/
theorem part14_run (K : GSem nD τ sig → ℕ) (c : Dev nD) (W : Waits sig Unit) (f1 : FVec F S16x16x2 .f32) (n2 : FVec F S16x16x64 .f32) (n3 : FVec F S16x16x2 .f32)
    (v5 v6 : BitVec 32) (v428 v435 : FVec F S32x1 .f32) (v452 : FVec F S16x2 .f32)
    (hs : (Memref.whole cc0_scratch1).view.writes (Elt F) f1 [⟨Rect.unit (s := S16x16x2) ![15, 0, 0] S1x16x2.size inb_S16x16x2_S1x16x2_15_0_0, k0_pay88 v428 v435⟩,
      ⟨Rect.unit (s := S16x16x2) ![14, 0, 0] S1x16x2.size inb_S16x16x2_S1x16x2_14_0_0, k0_pay87 v452⟩] = ss c)
    (a0 : Memref sig .tc .vmem S16x16x64 .bf16) (ha0 : a0.IsWhole) (a1 : Memref sig .tc .vmem S16x2048x64 .bf16) (ha1 : a1.IsWhole)
    (a2 : Memref sig .tc .vmem S16x2048x64 .bf16) (ha2 : a2.IsWhole) (a3 : Memref sig .tc .vmem S16x128 .i32) (ha3 : a3.IsWhole)
    (a4 : Memref sig .tc .vmem S16x1 .i32) (ha4 : a4.IsWhole) (a5 : Memref sig .tc .vmem S16x16x64 .f32) (ha5 : a5.IsWhole)
    (Kt : PUnit → sProp 𝕄) :
    iprop(cellInv ER (talkRd so ss) (K (outOCell c)) (outOCell c)
      ∗ cellInv ER (talkRd so ss) (K (outSCell c)) (outSCell c)
      ∗ cellInv ER (talkRd so ss) (K (inOCell (pr c))) (inOCell (pr c)) ∗ cellInv ER (talkRd so ss) (K (inSCell (pr c))) (inSCell (pr c))
      ∗ atPos ER (outOCell c) 0 ∅ 0 ∗ (reached ER (outOCell c) 0 ∗ reached ER (outSCell c) 0 ∗ reached ER (inOCell (pr c)) 0 ∗ reached ER (inSCell (pr c)) 0)
      ∗ (dutyTok ER (outOCell c) 0 () ∗ dutyTok ER (outSCell c) 0 () ∗ dutyTok ER (inOCell (pr c)) 0 () ∗ dutyTok ER (inSCell (pr c)) 0 ())
      ∗ pt c cc0_scratch0 (so c) ∗ pt c cc0_scratch1 f1 ∗ pt (pr c) cc0_scratch2 n2 ∗ pt (pr c) cc0_scratch3 n3
      ∗ owes (c : Thread nD τ) (O₁ c) W
      ∗ (atPos ER (outOCell c) 1 ∅ 0 -∗ cred (tallyAt (outSCell c) () NS) -∗ pt c cc0_scratch0 (so c)
          -∗ owes (c : Thread nD τ) 0 (insert (SemLoc.dma outO, ()) W) -∗ Kt ⟨⟩))
      ⊢ wp frame (wpE (defs₀ (F := F)) 𝒱₀ c none) Set.univ (k0_part14 a0 ha0 a1 ha1 a2 ha2 a3 ha3 a4 ha4 a5 ha5
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v5 v6 v428 v435 v452) Kt := by
  rw [k0_part14_eq_skeleton]
  unfold k0_part14_skel
  iintro ⟨#HIoO, #HIoS, #HIiOP, #HIiSP, HatoO, ⟨#HroO, #HroS, #HrO, #HrS⟩, ⟨HtoO, HtoS, HtiO, HtiS⟩, G0, G1, N2, N3, HO, Hk⟩
  sl_exec
  rw [hs]
  iapply (send_run so ss (K (outOCell c)) (K (inOCell (pr c))) c _ (dev2_eq c) outO inO (n := NO) rfl (duties_outO so ss c) (duties_inO so ss (pr c))
    (amount_outO so ss c ()) (amount_inO so ss (pr c) ()) (so c) n2 (tallyAt (inSCell (pr c)) () NS) rfl
    (by rw [payload_outO]; exact BIBase.Entails.of_eq (pt_view c cc0_scratch0 (so c)))
    (by rw [payload_inO]; unfold inOPay; rw [pr_pr, landedO]; exact BIBase.Entails.of_eq (pt_view (pr c) cc0_scratch2 (so c)))) $$ [-]
  isplitr; · iexact HIoO
  isplitr; · iexact HIiOP
  isplitl [G0]; · rw [pt_view]; iexact G0
  isplitl [N2]; · rw [pt_view]; iexact N2
  isplitl [HO]; · iexact HO
  isplitl [HtoO]; · iexact HtoO
  isplitr; · iexact HroO
  isplitl [HtiO]; · iexact HtiO
  isplitr; · iexact HrO
  iintro HcO HO
  iapply (send_run so ss (K (outSCell c)) (K (inSCell (pr c))) c _ (dev3_eq c) outS inS (n := NS) rfl (duties_outS so ss c) (duties_inS so ss (pr c))
    (amount_outS so ss c ()) (amount_inS so ss (pr c) ()) (ss c) n3 0 (zero_add _).symm
    (by rw [payload_outS]; exact BIBase.Entails.of_eq (pt_view c cc0_scratch1 (ss c)))
    (by rw [payload_inS]; unfold inSPay; rw [pr_pr, landedS]; exact BIBase.Entails.of_eq (pt_view (pr c) cc0_scratch3 (ss c)))) $$ [-]
  isplitr; · iexact HIoS
  isplitr; · iexact HIiSP
  isplitl [G1]; · rw [pt_view]; iexact G1
  isplitl [N3]; · rw [pt_view]; iexact N3
  isplitl [HO]; · iexact HO
  isplitl [HtoS]; · iexact HtoS
  isplitr; · iexact HroS
  isplitl [HtiS]; · iexact HtiS
  isplitr; · iexact HrS
  iintro HcS HO
  iapply (wait_run so ss (K (outOCell c)) c outO (dst := Memref.whole cc0_scratch0) (n := NO) creditO (duties_outO so ss c) (expect_outO so ss c) (payload_outO so ss c) _) $$ [-]
  isplitr; · iexact HIoO
  isplitl [HcO]; · iexact HcO
  isplitl [HO]; · iexact HO
  isplitl [HatoO]; · iexact HatoO
  iintro HO HatoO G0
  rw [show ((Prog.ret PUnit.unit).bind fun _ => pure PUnit.unit : Prog (TpuEff nD τ sig (Elt F) Λ₀ .tc) PUnit) = Prog.ret PUnit.unit from rfl, wp_ret]
  imodintro
  unfold outOPay
  iapply Hk $$ HatoO HcS G0 HO

/-- What the last part returns, of what its six loads read. -/
theorem merged_loads (o o' : FVec F S16x16x64 .f32) (s s' : FVec F S16x16x2 .f32) :
    k0_pay89
      (View.readAt (Elt F) (Memref.whole cc0_scratch1).view (Rect.unit (s := S16x16x2) ![0, 0, 0] ![16, 16, 1] inb_S16x16x2_S16x16x1_0_0_0).toLoadRect s)
      (View.readAt (Elt F) (Memref.whole cc0_scratch1).view (Rect.unit (s := S16x16x2) ![0, 0, 1] ![16, 16, 1] inb_S16x16x2_S16x16x1_0_0_1).toLoadRect s)
      (View.readAt (Elt F) (Memref.whole cc0_scratch3).view (Rect.unit (s := S16x16x2) ![0, 0, 0] ![16, 16, 1] inb_S16x16x2_S16x16x1_0_0_0).toLoadRect s')
      (View.readAt (Elt F) (Memref.whole cc0_scratch3).view (Rect.unit (s := S16x16x2) ![0, 0, 1] ![16, 16, 1] inb_S16x16x2_S16x16x1_0_0_1).toLoadRect s')
      (View.readAt (Elt F) (Memref.whole cc0_scratch0).view (Rect.unit (s := S16x16x64) ![0, 0, 0] ![16, 16, 64] inb_S16x16x64_S16x16x64_0_0_0).toLoadRect o)
      (View.readAt (Elt F) (Memref.whole cc0_scratch2).view (Rect.unit (s := S16x16x64) ![0, 0, 0] ![16, 16, 64] inb_S16x16x64_S16x16x64_0_0_0).toLoadRect o')
      = merged o s o' s' := by
  have e0 : View.readAt (Elt F) (Memref.whole cc0_scratch0).view (Rect.unit (s := S16x16x64) ![0, 0, 0] ![16, 16, 64] inb_S16x16x64_S16x16x64_0_0_0).toLoadRect o = o :=
    Memref.readAt_unit_zero (Elt F) cc0_scratch0 (by decide) inb_S16x16x64_S16x16x64_0_0_0 o
  have e2 : View.readAt (Elt F) (Memref.whole cc0_scratch2).view (Rect.unit (s := S16x16x64) ![0, 0, 0] ![16, 16, 64] inb_S16x16x64_S16x16x64_0_0_0).toLoadRect o' = o' :=
    Memref.readAt_unit_zero (Elt F) cc0_scratch2 (by decide) inb_S16x16x64_S16x16x64_0_0_0 o'
  rw [e0, e2]
  rfl

/-- Both copies have come in: the waits, the loads of the four buffers, and what is made of them. -/
theorem part15_run (K : GSem nD τ sig → ℕ) (c : Dev nD) (W : Waits sig Unit)
    (v5 v6 : BitVec 32)
    (a0 : Memref sig .tc .vmem S16x16x64 .bf16) (ha0 : a0.IsWhole) (a1 : Memref sig .tc .vmem S16x2048x64 .bf16) (ha1 : a1.IsWhole)
    (a2 : Memref sig .tc .vmem S16x2048x64 .bf16) (ha2 : a2.IsWhole) (a3 : Memref sig .tc .vmem S16x128 .i32) (ha3 : a3.IsWhole)
    (a4 : Memref sig .tc .vmem S16x1 .i32) (ha4 : a4.IsWhole) (a5 : Memref sig .tc .vmem S16x16x64 .f32) (ha5 : a5.IsWhole)
    (Kt : FVec F S16x16x64 .f32 → sProp 𝕄) :
    iprop(cellInv ER (talkRd so ss) (K (outSCell c)) (outSCell c) ∗ cellInv ER (talkRd so ss) (K (inOCell c)) (inOCell c)
      ∗ cellInv ER (talkRd so ss) (K (inSCell c)) (inSCell c)
      ∗ atPos ER (outSCell c) 0 ∅ 0 ∗ atPos ER (inOCell c) 0 ∅ 0 ∗ atPos ER (inSCell c) 0 ∅ 0
      ∗ cred (tallyAt (outSCell c) () NS) ∗ cred (tallyAt (inOCell c) () NO) ∗ cred (tallyAt (inSCell c) () NS)
      ∗ pt c cc0_scratch0 (so c) ∗ owes (c : Thread nD τ) 0 W
      ∗ (atPos ER (outSCell c) 1 ∅ 0 -∗ atPos ER (inOCell c) 1 ∅ 0 -∗ atPos ER (inSCell c) 1 ∅ 0
          -∗ pt c cc0_scratch0 (so c) -∗ pt c cc0_scratch1 (ss c) -∗ pt c cc0_scratch2 (so (pr c)) -∗ pt c cc0_scratch3 (ss (pr c))
          -∗ owes (c : Thread nD τ) 0 (insert (SemLoc.dma inS, ()) (insert (SemLoc.dma outS, ()) (insert (SemLoc.dma inO, ()) W))) -∗ Kt (merged (so c) (ss c) (so (pr c)) (ss (pr c)))))
      ⊢ wp frame (wpE (defs₀ (F := F)) 𝒱₀ c none) Set.univ (k0_part15 a0 ha0 a1 ha1 a2 ha2 a3 ha3 a4 ha4 a5 ha5
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 v5 v6) Kt := by
  rw [k0_part15_eq_skeleton]
  unfold k0_part15_skel
  iintro ⟨#HIoS, #HIiO, #HIiS, HatoS, HatiO, HatiS, HcoS, HciO, HciS, G0, HO, Hk⟩
  simp only [Prog.lift, Prog.bind_op, Prog.bind_ret]
  iapply (wait_run so ss (K (inOCell c)) c inO (n := NO) rfl (duties_inO so ss c) (expect_inO so ss c) (payload_inO so ss c) _) $$ [-]
  isplitr; · iexact HIiO
  isplitl [HciO]; · iexact HciO
  isplitl [HO]; · iexact HO
  isplitl [HatiO]; · iexact HatiO
  iintro HO HatiO G2
  iapply (wait_run so ss (K (outSCell c)) c outS (dst := Memref.whole cc0_scratch1) (n := NS) creditS (duties_outS so ss c) (expect_outS so ss c) (payload_outS so ss c) _) $$ [-]
  isplitr; · iexact HIoS
  isplitl [HcoS]; · iexact HcoS
  isplitl [HO]; · iexact HO
  isplitl [HatoS]; · iexact HatoS
  iintro HO HatoS G1
  iapply (wait_run so ss (K (inSCell c)) c inS (n := NS) rfl (duties_inS so ss c) (expect_inS so ss c) (payload_inS so ss c) _) $$ [-]
  isplitr; · iexact HIiS
  isplitl [HciS]; · iexact HciS
  isplitl [HO]; · iexact HO
  isplitl [HatiS]; · iexact HatiS
  iintro HO HatiS G3
  unfold inOPay outSPay inSPay
  sl_exec
  rw [merged_loads, wp_ret]
  imodintro
  iapply Hk $$ HatoS HatiO HatiS G0 G1 G2 G3 HO

end Cert.KernelIdeal.Talk
-- ==== Proof.Compute.lean ====
/- What a device computes before the exchange: for every pair of heads the output of the attention over its own pages, not yet
   normalised, with the running maximum and the sum of the exponentials. -/
module

public import proofs.«01_k».proof.Proof.Gen.KernelIdeal.Skeleton
public import Idealize.ShloMosaic.Lib.VecWindow
public import Idealize.ShloMosaic.Lib.Writes
public import Idealize.ShloMosaic.Lib.Pointwise.Index

@[expose] public section

noncomputable section

namespace Cert.KernelIdeal.Talk

open Idealize.ShloMosaic
open Cert.KernelIdeal Cert.KernelIdeal.Gen

variable {F : FTy → Type} [FloatOps F] [Named F]

/-- Head `2 g + e` of the pair `g`. -/
def head (g : Fin 8) (e : Fin 2) : Fin 16 := ⟨2 * g.val + e.val, by omega⟩

/-- The block of head `j` of the queries. -/
def qSlab (x : FVec F S16x16x64 .bf16) (j : Fin 16) : FVec F S1x16x64 .bf16 :=
  VecWindow.window x ![j.val, 0, 0] S1x16x64.size
    (by intro a; have := j.isLt; match a with | ⟨0, _⟩ => exact Nat.succ_le_of_lt this | ⟨1, _⟩ => exact Nat.le_refl 16 | ⟨2, _⟩ => exact Nat.le_refl 64)

/-- The block of head `j` of the keys or of the values. -/
def kvSlab (x : FVec F S16x2048x64 .bf16) (j : Fin 16) : FVec F S1x2048x64 .bf16 :=
  VecWindow.window x ![j.val, 0, 0] S1x2048x64.size
    (by intro a; have := j.isLt; match a with | ⟨0, _⟩ => exact Nat.succ_le_of_lt this | ⟨1, _⟩ => exact Nat.le_refl 2048 | ⟨2, _⟩ => exact Nat.le_refl 64)

/-- The logarithm of the multiplicity of every token of every sequence, once for each head of a pair. -/
def lwOf (c : Dev nD) (x3 : IVec S16x128 32) (x4 : IVec S16x1 32) : FVec F S32x2048 .f32 :=
  k0_pay2 (k0_pay1 c x3 x4) (iota .tc S128x2048 32 [1] iota_S128x2048_d1_w32)

section Group

variable (lw : FVec F S32x2048 .f32) (x0 : FVec F S16x16x64 .bf16) (x1 x2 : FVec F S16x2048x64 .bf16) (g : Fin 8)

/-- The row maxima of pair `g`: rows 0–15 the even head, 16–31 the odd one. -/
def grpM : FVec F S32x1 .f32 :=
  k0_pay18 lw k0_pay3 (qSlab x0 (head g 0)) (qSlab x0 (head g 1)) (kvSlab x1 (head g 0)) (kvSlab x1 (head g 1))
/-- The row sums of the exponentials. -/
def grpL : FVec F S32x1 .f32 :=
  k0_pay20 lw k0_pay3 (qSlab x0 (head g 0)) (qSlab x0 (head g 1)) (kvSlab x1 (head g 0)) (kvSlab x1 (head g 1))
/-- The exponentials times the values of both heads side by side. -/
def grpO : FVec F S32x128 .f32 :=
  k0_pay21 lw k0_pay3 (qSlab x0 (head g 0)) (qSlab x0 (head g 1)) (kvSlab x1 (head g 0)) (kvSlab x1 (head g 1)) (kvSlab x2 (head g 0)) (kvSlab x2 (head g 1))

/-- The block stored for the even head, and for the odd head. -/
def blkO (e : Fin 2) : FVec F S1x16x64 .f32 :=
  if e = 0 then k0_pay23 (extractStridedSlice S16x64 ![0, 0] (grpO lw x0 x1 x2 g) slices_S32x128_o0_0_S16x64) else k0_pay24 (grpO lw x0 x1 x2 g)
/-- Likewise the maximum and the sum side by side. -/
def blkS (e : Fin 2) : FVec F S1x16x2 .f32 :=
  if e = 0 then k0_pay25 (grpM lw x0 x1 g) (grpL lw x0 x1 g) else k0_pay26 (grpM lw x0 x1 g) (grpL lw x0 x1 g)

end Group

/-- The pair a head belongs to, and its place in it. -/
def pairOf (j : Fin 16) : Fin 8 := ⟨j.val / 2, by omega⟩
def placeOf (j : Fin 16) : Fin 2 := ⟨j.val % 2, by omega⟩

theorem pairOf_head (g : Fin 8) (e : Fin 2) : pairOf (head g e) = g := Fin.ext (show (2 * g.val + e.val) / 2 = g.val by omega)
theorem placeOf_head (g : Fin 8) (e : Fin 2) : placeOf (head g e) = e := Fin.ext (show (2 * g.val + e.val) % 2 = e.val by omega)
theorem head_pairOf (j : Fin 16) : head (pairOf j) (placeOf j) = j := Fin.ext (show 2 * (j.val / 2) + j.val % 2 = j.val by omega)

/-- All the output blocks of a device, one per head. -/
def sendO (lw : FVec F S32x2048 .f32) (x0 : FVec F S16x16x64 .bf16) (x1 x2 : FVec F S16x2048x64 .bf16) : FVec F S16x16x64 .f32 :=
  fun i => blkO lw x0 x1 x2 (pairOf (i 0)) (placeOf (i 0)) (ix3 (n0 := 1) (n1 := 16) (n2 := 64) 0 (i 1) (i 2))
/-- All the maxima and sums of a device, one block per head. -/
def sendS (lw : FVec F S32x2048 .f32) (x0 : FVec F S16x16x64 .bf16) (x1 : FVec F S16x2048x64 .bf16) : FVec F S16x16x2 .f32 :=
  fun i => blkS lw x0 x1 (pairOf (i 0)) (placeOf (i 0)) (ix3 (n0 := 1) (n1 := 16) (n2 := 2) 0 (i 1) (i 2))

/-- A block read in place. -/
theorem sendO_blk (lw : FVec F S32x2048 .f32) (x0 : FVec F S16x16x64 .bf16) (x1 x2 : FVec F S16x2048x64 .bf16) (g : Fin 8) (e : Fin 2)
    {off : Fin 3 → ℕ} (hoff : off = ![(head g e).val, 0, 0]) (inb : ∀ a, off a + S1x16x64.size a ≤ S16x16x64.size a) (w : FVec F S1x16x64 .f32)
    (hw : w = blkO lw x0 x1 x2 g e) (x : S1x16x64.Idx) : w x = sendO lw x0 x1 x2 ((Rect.unit (s := S16x16x64) off S1x16x64.size inb).emb x) := by
  subst hoff hw
  have hx0 : (x 0).val = 0 := Nat.lt_one_iff.mp (x 0).isLt
  have e0 : ((Rect.unit (s := S16x16x64) ![(head g e).val, 0, 0] S1x16x64.size inb).emb x) 0 = head g e :=
    Fin.ext (show (head g e).val + 1 * (x 0).val = (head g e).val by omega)
  have e1 : ((Rect.unit (s := S16x16x64) ![(head g e).val, 0, 0] S1x16x64.size inb).emb x) 1 = x 1 := Fin.ext (show 0 + 1 * (x 1).val = (x 1).val by omega)
  have e2 : ((Rect.unit (s := S16x16x64) ![(head g e).val, 0, 0] S1x16x64.size inb).emb x) 2 = x 2 := Fin.ext (show 0 + 1 * (x 2).val = (x 2).val by omega)
  unfold sendO
  rw [e0, e1, e2, pairOf_head, placeOf_head]
  refine congrArg _ ?_
  funext a
  match a with
  | ⟨0, _⟩ => exact Fin.ext hx0
  | ⟨1, _⟩ => rfl
  | ⟨2, _⟩ => rfl

/-- So are the maxima and sums. -/
theorem sendS_blk (lw : FVec F S32x2048 .f32) (x0 : FVec F S16x16x64 .bf16) (x1 : FVec F S16x2048x64 .bf16) (g : Fin 8) (e : Fin 2)
    {off : Fin 3 → ℕ} (hoff : off = ![(head g e).val, 0, 0]) (inb : ∀ a, off a + S1x16x2.size a ≤ S16x16x2.size a) (w : FVec F S1x16x2 .f32)
    (hw : w = blkS lw x0 x1 g e) (x : S1x16x2.Idx) : w x = sendS lw x0 x1 ((Rect.unit (s := S16x16x2) off S1x16x2.size inb).emb x) := by
  subst hoff hw
  have hx0 : (x 0).val = 0 := Nat.lt_one_iff.mp (x 0).isLt
  have e0 : ((Rect.unit (s := S16x16x2) ![(head g e).val, 0, 0] S1x16x2.size inb).emb x) 0 = head g e :=
    Fin.ext (show (head g e).val + 1 * (x 0).val = (head g e).val by omega)
  have e1 : ((Rect.unit (s := S16x16x2) ![(head g e).val, 0, 0] S1x16x2.size inb).emb x) 1 = x 1 := Fin.ext (show 0 + 1 * (x 1).val = (x 1).val by omega)
  have e2 : ((Rect.unit (s := S16x16x2) ![(head g e).val, 0, 0] S1x16x2.size inb).emb x) 2 = x 2 := Fin.ext (show 0 + 1 * (x 2).val = (x 2).val by omega)
  unfold sendS
  rw [e0, e1, e2, pairOf_head, placeOf_head]
  refine congrArg _ ?_
  funext a
  match a with
  | ⟨0, _⟩ => exact Fin.ext hx0
  | ⟨1, _⟩ => rfl
  | ⟨2, _⟩ => rfl

end Cert.KernelIdeal.Talk

end
-- ==== Proof.Body.lean ====
module

public import proofs.«01_k».proof.Proof.Parts
public import proofs.«01_k».proof.Proof.Compute

@[expose] public section

/-!
The whole body of the kernel, run once over any interpretation of the floats: what its buffers hold when it ends.
-/

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA Auth
open Cert.KernelIdeal Cert.KernelIdeal.Gen

variable {F : FTy → Type} [FloatOps F] [Named F]
local notation "𝕄" => MT nD τ sig Unit (Elt F) ℕ UU ℕ

variable (so : Dev nD → FVec F S16x16x64 .f32) (ss : Dev nD → FVec F S16x16x2 .f32)

/-- The output buffer after its blocks' stores. -/
theorem fillO (lw : FVec F S32x2048 .f32) (x0 : FVec F S16x16x64 .bf16) (x1 x2 : FVec F S16x2048x64 .bf16) (g0 : FVec F S16x16x64 .f32)
    (L : List (View.Piece (Elt F) S16x16x64 .f32)) (ht : View.Piece.tiled L S1x16x64.size = true)
    (h : ∀ p ∈ L, ∀ x : p.1.shape.Idx, p.2 x = sendO lw x0 x1 x2 (p.1.emb x)) :
    (Memref.whole cc0_scratch0 : Memref sig .tc .vmem S16x16x64 .f32).view.writes (Elt F) g0 L = sendO lw x0 x1 x2 := by
  funext y
  have e := View.read_writes_apply_of_pieces (Memref.whole cc0_scratch0 : Memref sig .tc .vmem S16x16x64 .f32).view g0 (sendO lw x0 x1 x2) L h y (View.cover_of_tiled L S1x16x64.size ht y)
  exact e

/-- The buffer of maxima and sums after its blocks' stores. -/
theorem fillS (lw : FVec F S32x2048 .f32) (x0 : FVec F S16x16x64 .bf16) (x1 : FVec F S16x2048x64 .bf16) (g1 : FVec F S16x16x2 .f32)
    (L : List (View.Piece (Elt F) S16x16x2 .f32)) (ht : View.Piece.tiled L S1x16x2.size = true)
    (h : ∀ p ∈ L, ∀ x : p.1.shape.Idx, p.2 x = sendS lw x0 x1 (p.1.emb x)) :
    (Memref.whole cc0_scratch1 : Memref sig .tc .vmem S16x16x2 .f32).view.writes (Elt F) g1 L = sendS lw x0 x1 := by
  funext y
  have e := View.read_writes_apply_of_pieces (Memref.whole cc0_scratch1 : Memref sig .tc .vmem S16x16x2 .f32).view g1 (sendS lw x0 x1) L h y (View.cover_of_tiled L S1x16x2.size ht y)
  exact e

/-- What the body gives back: every cell's counter at zero, the five inputs as they were, the output staged as the merge of
    the two devices' results, the scratch buffers, and nothing owed. -/
def bodyPost (c : Dev nD) (x0 : FVec F S16x16x64 .bf16) (x1 x2 : FVec F S16x2048x64 .bf16) (x3 : IVec S16x128 32) (x4 : IVec S16x1 32) : sProp 𝕄 :=
  iprop(semVal (barCell c) 0 ∗ (semVal (outOCell c) 0 ∗ semVal (outSCell c) 0 ∗ semVal (inOCell c) 0 ∗ semVal (inSCell c) 0)
    ∗ pt c cc0_stg0_0 x0 ∗ pt c cc0_stg1_0 x1 ∗ pt c cc0_stg2_0 x2 ∗ pt c cc0_stg3_0 x3 ∗ pt c cc0_stg4_0 x4
    ∗ pt c cc0_stg5_0 (merged (so c) (ss c) (so (pr c)) (ss (pr c)))
    ∗ (∃ f, pt c cc0_scratch0 f) ∗ (∃ f, pt c cc0_scratch1 f) ∗ (∃ f, pt c cc0_scratch2 f) ∗ (∃ f, pt c cc0_scratch3 f)
    ∗ ∃ W, owes (c : Thread nD τ) 0 W)

/-- Loading a whole buffer and storing into it whole leaves what was stored. -/
theorem stored_whole (f v : FVec F S16x16x64 .f32) :
    (Memref.whole cc0_stg5_0 : Memref sig .tc .vmem S16x16x64 .f32).view.writes (Elt F) f
      [⟨Rect.unit (s := S16x16x64) ![0, 0, 0] S16x16x64.size inb_S16x16x64_S16x16x64_0_0_0, v⟩] = v :=
  Memref.write_access_unit_zero_univ (Elt F) cc0_stg5_0 (by decide) inb_S16x16x64_S16x16x64_0_0_0 f v

/-- The end of the body: the exchange, the merge and the output's store. -/
theorem tail_run (K : GSem nD τ sig → ℕ) (c : Dev nD) (W : Waits sig Unit) (f1 : FVec F S16x16x2 .f32) (n2 : FVec F S16x16x64 .f32) (n3 : FVec F S16x16x2 .f32)
    (f5 : FVec F S16x16x64 .f32) (v5 v6 : BitVec 32) (v428 v435 : FVec F S32x1 .f32) (v452 : FVec F S16x2 .f32)
    (Kt : PUnit → sProp 𝕄) :
    iprop(invs so ss K c ∗ (atPos ER (outOCell c) 0 ∅ 0 ∗ atPos ER (outSCell c) 0 ∅ 0 ∗ atPos ER (inOCell c) 0 ∅ 0 ∗ atPos ER (inSCell c) 0 ∅ 0)
      ∗ (reached ER (outOCell c) 0 ∗ reached ER (outSCell c) 0 ∗ reached ER (inOCell (pr c)) 0 ∗ reached ER (inSCell (pr c)) 0)
      ∗ (dutyTok ER (outOCell c) 0 () ∗ dutyTok ER (outSCell c) 0 () ∗ dutyTok ER (inOCell (pr c)) 0 () ∗ dutyTok ER (inSCell (pr c)) 0 ())
      ∗ (cred (tallyAt (inOCell c) () NO) ∗ cred (tallyAt (inSCell c) () NS))
      ∗ pt c cc0_scratch0 (so c) ∗ pt c cc0_scratch1 f1 ∗ ⌜(Memref.whole cc0_scratch1).view.writes (Elt F) f1 [⟨Rect.unit (s := S16x16x2) ![15, 0, 0] S1x16x2.size inb_S16x16x2_S1x16x2_15_0_0, k0_pay88 v428 v435⟩,
      ⟨Rect.unit (s := S16x16x2) ![14, 0, 0] S1x16x2.size inb_S16x16x2_S1x16x2_14_0_0, k0_pay87 v452⟩] = ss c⌝
      ∗ pt (pr c) cc0_scratch2 n2 ∗ pt (pr c) cc0_scratch3 n3 ∗ pt c cc0_stg5_0 f5
      ∗ owes (c : Thread nD τ) (O₁ c) W ∗ atPos ER (barCell c) 1 ∅ 0
      ∗ ((semVal (barCell c) 0 ∗ (semVal (outOCell c) 0 ∗ semVal (outSCell c) 0 ∗ semVal (inOCell c) 0 ∗ semVal (inSCell c) 0)
          ∗ pt c cc0_stg5_0 (merged (so c) (ss c) (so (pr c)) (ss (pr c)))
          ∗ pt c cc0_scratch0 (so c) ∗ pt c cc0_scratch1 (ss c) ∗ pt c cc0_scratch2 (so (pr c)) ∗ pt c cc0_scratch3 (ss (pr c))
          ∗ ∃ W, owes (c : Thread nD τ) 0 W) -∗ Kt ⟨⟩))
      ⊢ wp frame (wpE (defs₀ (F := F)) 𝒱₀ c none) Set.univ (do
        k0_part14 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_stg5_0) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5 c v5 v6 v428 v435 v452
        let v514 : FVec F S16x16x64 .f32 ← k0_part15 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_stg5_0) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5 v5 v6
        let v515 : Vec F S16x16x64 .f32 ← Prog.lift (.load (Memref.whole cc0_stg5_0) (Rect.unit (s := S16x16x64) ![0, 0, 0] S16x16x64.size inb_S16x16x64_S16x16x64_0_0_0).toLoadRect (View.loadsAt_vmem h_S16x16x64))
        Prog.lift (.store (Memref.whole cc0_stg5_0) (Rect.unit (s := S16x16x64) ![0, 0, 0] S16x16x64.size inb_S16x16x64_S16x16x64_0_0_0) v514 Finset.univ (View.stores_vmem_bits_univ h_S16x16x64 rfl) (.inl rfl))
        pure ⟨⟩) Kt := by
  unfold invs
  iintro ⟨⟨#HIbar, #HIoO, #HIoS, #HIiO, #HIiS, #HIbarP, #HIiOP, #HIiSP⟩, ⟨HatoO, HatoS, HatiO, HatiS⟩, #Hr, Ht, ⟨HcO, HcS⟩, G0, G1, %hs, N2, N3, H5, HO, HatB, Hk⟩
  rw [wp_bind]
  iapply (part14_run so ss K c W f1 n2 n3 v5 v6 v428 v435 v452 hs) $$ [-]
  isplitr; · iexact HIoO
  isplitr; · iexact HIoS
  isplitr; · iexact HIiOP
  isplitr; · iexact HIiSP
  isplitl [HatoO]; · iexact HatoO
  isplitr; · iexact Hr
  isplitl [Ht]; · iexact Ht
  isplitl [G0]; · iexact G0
  isplitl [G1]; · iexact G1
  isplitl [N2]; · iexact N2
  isplitl [N3]; · iexact N3
  isplitl [HO]; · iexact HO
  iintro HatoO HcoS G0 HO
  rw [wp_bind]
  iapply (part15_run so ss K c _ v5 v6) $$ [-]
  isplitr; · iexact HIoS
  isplitr; · iexact HIiO
  isplitr; · iexact HIiS
  isplitl [HatoS]; · iexact HatoS
  isplitl [HatiO]; · iexact HatiO
  isplitl [HatiS]; · iexact HatiS
  isplitl [HcoS]; · iexact HcoS
  isplitl [HcO]; · iexact HcO
  isplitl [HcS]; · iexact HcS
  isplitl [G0]; · iexact G0
  isplitl [HO]; · iexact HO
  iintro HatoS HatiO HatiS G0 G1 G2 G3 HO
  sl_exec
  rw [stored_whole]
  rw [wp_ret]
  imod (close so ss (K (barCell c)) (barCell c)) $$ [HatB] with Hb
  · isplitr; · iexact HIbar
    iexact HatB
  imod (close so ss (K (outOCell c)) (outOCell c)) $$ [HatoO] with Ho1
  · isplitr; · iexact HIoO
    iexact HatoO
  imod (close so ss (K (outSCell c)) (outSCell c)) $$ [HatoS] with Ho2
  · isplitr; · iexact HIoS
    iexact HatoS
  imod (close so ss (K (inOCell c)) (inOCell c)) $$ [HatiO] with Hi1
  · isplitr; · iexact HIiO
    iexact HatiO
  imod (close so ss (K (inSCell c)) (inSCell c)) $$ [HatiS] with Hi2
  · isplitr; · iexact HIiS
    iexact HatiS
  imodintro
  iapply Hk
  isplitl [Hb]; · iexact Hb
  isplitl [Ho1 Ho2 Hi1 Hi2]
  · isplitl [Ho1]; · iexact Ho1
    isplitl [Ho2]; · iexact Ho2
    isplitl [Hi1]; · iexact Hi1
    iexact Hi2
  isplitl [H5]; · iexact H5
  isplitl [G0]; · iexact G0
  isplitl [G1]; · iexact G1
  isplitl [G2]; · iexact G2
  isplitl [G3]; · iexact G3
  iexists _; iexact HO

/-- The body's run, from what it holds at its start to what it gives back. -/
theorem body_run (K : GSem nD τ sig → ℕ) (c : Dev nD) (W : Waits sig Unit) (x0 : FVec F S16x16x64 .bf16) (x1 x2 : FVec F S16x2048x64 .bf16) (x3 : IVec S16x128 32)
    (x4 : IVec S16x1 32) (hso : so c = sendO (lwOf c x3 x4) x0 x1 x2)
    (hss : ss c = sendS (lwOf c x3 x4) x0 x1) (Kt : PUnit → sProp 𝕄) :
    iprop(bodyPre so ss K c W x0 x1 x2 x3 x4 ∗ (bodyPost so ss c x0 x1 x2 x3 x4 -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5) Kt := by
  rw [cc0_body_eq_skeleton]
  unfold cc0_body_skel
  unfold bodyPre opened invs payToks credits
  iintro ⟨⟨⟨⟨#HIbar, #HIoO, #HIoS, #HIiO, #HIiS, #HIbarP, #HIiOP, #HIiSP⟩, HatB, ⟨HatoO, HatoS, HatiO, HatiS⟩, ⟨#HroO, #HroS, #HriO, #HriS⟩, #HrP, HtB, HtoO, HtoS, HtiO, HtiS⟩,
    ⟨HcB, HcO, HcS⟩, #Hlev, H0, H1, H2, H3, H4, ⟨%f5, H5⟩, ⟨%g0, G0⟩, ⟨%g1, G1⟩, G2, G3, HO⟩, Hk⟩
  rw [wp_bind]
  iapply (part1_run so ss K c W x3 x4)
  isplitr; · iexact HIbar
  isplitr; · iexact HIbarP
  isplitl [HatB]; · iexact HatB
  isplitr; · iexact HriO
  isplitr; · iexact HriS
  isplitr; · iexact HrP
  isplitl [HtB]; · iexact HtB
  isplitl [HcB]; · iexact HcB
  isplitr; · iexact Hlev
  isplitl [G2]; · iexact G2
  isplitl [G3]; · iexact G3
  isplitl [HO]; · iexact HO
  isplitl [H3]; · iexact H3
  isplitl [H4]; · iexact H4
  iintro HatB ⟨%n2, N2⟩ ⟨%n3, N3⟩ #HrO #HrS HO H3 H4 %v5 %v6
  set_option sl_exec.stopBefore "k0_part14" in
  sl_exec_parts
  rw [fillO (lwOf c x3 x4) x0 x1 x2 g0 _ ?_ ?_]
  rotate_left
  · rfl
  · skip
    refine List.forall_mem_cons.2 ⟨sendO_blk _ x0 x1 x2 7 1 rfl inb_S16x16x64_S1x16x64_15_0_0 _ rfl, ?_⟩
    refine List.forall_mem_cons.2 ⟨sendO_blk _ x0 x1 x2 7 0 rfl inb_S16x16x64_S1x16x64_14_0_0 _ rfl, ?_⟩
    refine List.forall_mem_cons.2 ⟨sendO_blk _ x0 x1 x2 6 1 rfl inb_S16x16x64_S1x16x64_13_0_0 _ rfl, ?_⟩
    refine List.forall_mem_cons.2 ⟨sendO_blk _ x0 x1 x2 6 0 rfl inb_S16x16x64_S1x16x64_12_0_0 _ rfl, ?_⟩
    refine List.forall_mem_cons.2 ⟨sendO_blk _ x0 x1 x2 5 1 rfl inb_S16x16x64_S1x16x64_11_0_0 _ rfl, ?_⟩
    refine List.forall_mem_cons.2 ⟨sendO_blk _ x0 x1 x2 5 0 rfl inb_S16x16x64_S1x16x64_10_0_0 _ rfl, ?_⟩
    refine List.forall_mem_cons.2 ⟨sendO_blk _ x0 x1 x2 4 1 rfl inb_S16x16x64_S1x16x64_9_0_0 _ rfl, ?_⟩
    refine List.forall_mem_cons.2 ⟨sendO_blk _ x0 x1 x2 4 0 rfl inb_S16x16x64_S1x16x64_8_0_0 _ rfl, ?_⟩
    refine List.forall_mem_cons.2 ⟨sendO_blk _ x0 x1 x2 3 1 rfl inb_S16x16x64_S1x16x64_7_0_0 _ rfl, ?_⟩
    refine List.forall_mem_cons.2 ⟨sendO_blk _ x0 x1 x2 3 0 rfl inb_S16x16x64_S1x16x64_6_0_0 _ rfl, ?_⟩
    refine List.forall_mem_cons.2 ⟨sendO_blk _ x0 x1 x2 2 1 rfl inb_S16x16x64_S1x16x64_5_0_0 _ rfl, ?_⟩
    refine List.forall_mem_cons.2 ⟨sendO_blk _ x0 x1 x2 2 0 rfl inb_S16x16x64_S1x16x64_4_0_0 _ rfl, ?_⟩
    refine List.forall_mem_cons.2 ⟨sendO_blk _ x0 x1 x2 1 1 rfl inb_S16x16x64_S1x16x64_3_0_0 _ rfl, ?_⟩
    refine List.forall_mem_cons.2 ⟨sendO_blk _ x0 x1 x2 1 0 rfl inb_S16x16x64_S1x16x64_2_0_0 _ rfl, ?_⟩
    refine List.forall_mem_cons.2 ⟨sendO_blk _ x0 x1 x2 0 1 rfl inb_S16x16x64_S1x16x64_1_0_0 _ rfl, ?_⟩
    refine List.forall_mem_cons.2 ⟨sendO_blk _ x0 x1 x2 0 0 rfl inb_S16x16x64_S1x16x64_0_0_0 _ rfl, ?_⟩
    exact List.forall_mem_nil _
  rw [← hso]
  iapply (tail_run so ss K c _ _ n2 n3 f5 v5 v6 _ _ _) $$ [-]
  isplitr
  · unfold invs
    isplitr; · iexact HIbar
    isplitr; · iexact HIoO
    isplitr; · iexact HIoS
    isplitr; · iexact HIiO
    isplitr; · iexact HIiS
    isplitr; · iexact HIbarP
    isplitr; · iexact HIiOP
    iexact HIiSP
  isplitl [HatoO HatoS HatiO HatiS]
  · isplitl [HatoO]; · iexact HatoO
    isplitl [HatoS]; · iexact HatoS
    isplitl [HatiO]; · iexact HatiO
    iexact HatiS
  isplitr
  · isplitr; · iexact HroO
    isplitr; · iexact HroS
    isplitr; · iexact HrO
    iexact HrS
  isplitl [HtoO HtoS HtiO HtiS]
  · isplitl [HtoO]; · iexact HtoO
    isplitl [HtoS]; · iexact HtoS
    isplitl [HtiO]; · iexact HtiO
    iexact HtiS
  isplitl [HcO HcS]
  · isplitl [HcO]; · iexact HcO
    iexact HcS
  isplitl [G0]; · iexact G0
  isplitl [G1]; · iexact G1
  isplitr
  · ipureintro
    rw [← View.writes_append, hss]
    refine fillS _ x0 x1 g1 _ rfl ?_
    refine List.forall_mem_cons.2 ⟨sendS_blk _ x0 x1 7 1 rfl inb_S16x16x2_S1x16x2_15_0_0 _ rfl, ?_⟩
    refine List.forall_mem_cons.2 ⟨sendS_blk _ x0 x1 7 0 rfl inb_S16x16x2_S1x16x2_14_0_0 _ rfl, ?_⟩
    refine List.forall_mem_cons.2 ⟨sendS_blk _ x0 x1 6 1 rfl inb_S16x16x2_S1x16x2_13_0_0 _ rfl, ?_⟩
    refine List.forall_mem_cons.2 ⟨sendS_blk _ x0 x1 6 0 rfl inb_S16x16x2_S1x16x2_12_0_0 _ rfl, ?_⟩
    refine List.forall_mem_cons.2 ⟨sendS_blk _ x0 x1 5 1 rfl inb_S16x16x2_S1x16x2_11_0_0 _ rfl, ?_⟩
    refine List.forall_mem_cons.2 ⟨sendS_blk _ x0 x1 5 0 rfl inb_S16x16x2_S1x16x2_10_0_0 _ rfl, ?_⟩
    refine List.forall_mem_cons.2 ⟨sendS_blk _ x0 x1 4 1 rfl inb_S16x16x2_S1x16x2_9_0_0 _ rfl, ?_⟩
    refine List.forall_mem_cons.2 ⟨sendS_blk _ x0 x1 4 0 rfl inb_S16x16x2_S1x16x2_8_0_0 _ rfl, ?_⟩
    refine List.forall_mem_cons.2 ⟨sendS_blk _ x0 x1 3 1 rfl inb_S16x16x2_S1x16x2_7_0_0 _ rfl, ?_⟩
    refine List.forall_mem_cons.2 ⟨sendS_blk _ x0 x1 3 0 rfl inb_S16x16x2_S1x16x2_6_0_0 _ rfl, ?_⟩
    refine List.forall_mem_cons.2 ⟨sendS_blk _ x0 x1 2 1 rfl inb_S16x16x2_S1x16x2_5_0_0 _ rfl, ?_⟩
    refine List.forall_mem_cons.2 ⟨sendS_blk _ x0 x1 2 0 rfl inb_S16x16x2_S1x16x2_4_0_0 _ rfl, ?_⟩
    refine List.forall_mem_cons.2 ⟨sendS_blk _ x0 x1 1 1 rfl inb_S16x16x2_S1x16x2_3_0_0 _ rfl, ?_⟩
    refine List.forall_mem_cons.2 ⟨sendS_blk _ x0 x1 1 0 rfl inb_S16x16x2_S1x16x2_2_0_0 _ rfl, ?_⟩
    refine List.forall_mem_cons.2 ⟨sendS_blk _ x0 x1 0 1 rfl inb_S16x16x2_S1x16x2_1_0_0 _ rfl, ?_⟩
    refine List.forall_mem_cons.2 ⟨sendS_blk _ x0 x1 0 0 rfl inb_S16x16x2_S1x16x2_0_0_0 _ rfl, ?_⟩
    exact List.forall_mem_nil _
  isplitl [N2]; · iexact N2
  isplitl [N3]; · iexact N3
  isplitl [H5]; · iexact H5
  isplitl [HO]; · iexact HO
  isplitl [HatB]; · iexact HatB
  iintro ⟨Hb, Hc, H5, G0, G1, G2, G3, HO⟩
  iapply Hk
  unfold bodyPost
  isplitl [Hb]; · iexact Hb
  isplitl [Hc]; · iexact Hc
  isplitl [H0]; · iexact H0
  isplitl [H1]; · iexact H1
  isplitl [H2]; · iexact H2
  isplitl [H3]; · iexact H3
  isplitl [H4]; · iexact H4
  isplitl [H5]; · iexact H5
  isplitl [G0]; · iexists _; iexact G0
  isplitl [G1]; · iexists _; iexact G1
  isplitl [G2]; · iexists _; iexact G2
  isplitl [G3]; · iexists _; iexact G3
  iexact HO

end Cert.KernelIdeal.Talk
-- ==== Proof.Region.lean ====
/- The kernel's call as a region of @main: what the pipeline stages for it, its body's obligation, and the host code
   before and after it. The two buffers a device sends are those its own staged inputs make. -/
module

public import proofs.«01_k».proof.Proof.Body

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open PCS URA Auth
open Cert.KernelIdeal Cert.KernelIdeal.Gen

variable {F : FTy → Type} [FloatOps F] [Named F]
local notation "𝕄" => MT nD τ sig Unit (Elt F) ℕ UU ℕ

variable (m : (ℓ : Loc nD τ sig) → Buf (Elt F) ℓ)

/-! ## What each device stages, sends and returns -/

/-- The five arrays the call reads, as the host code before it leaves them. -/
def xQ (c : Dev nD) : FVec F S16x16x64 .bf16 := V m c main_v4
def xK (c : Dev nD) : FVec F S16x2048x64 .bf16 := V m c main_v6
def xV (c : Dev nD) : FVec F S16x2048x64 .bf16 := V m c main_v8
def xB (c : Dev nD) : IVec S16x128 32 := V m c main_arg3
def xL (c : Dev nD) : IVec S16x1 32 := V m c main_v9

/-- What device `c` sends: its attention sums, and its row maxima with its row sums. -/
def soOf (c : Dev nD) : FVec F S16x16x64 .f32 := sendO (lwOf c (xB m c) (xL m c)) (xQ m c) (xK m c) (xV m c)
def ssOf (c : Dev nD) : FVec F S16x16x2 .f32 := sendS (lwOf c (xB m c) (xL m c)) (xQ m c) (xK m c)

/-- What device `c`'s call returns. -/
def outOf (c : Dev nD) : FVec F S16x16x64 .f32 := merged (soOf m c) (ssOf m c) (soOf m (pr c)) (ssOf m (pr c))

/-! ## The proof data of the call -/

/-- The four scratch buffers at contents not chosen. -/
def scrAny (c : Dev nD) : sProp 𝕄 :=
  iprop((∃ f, pt c cc0_scratch0 f) ∗ (∃ f, pt c cc0_scratch1 f) ∗ (∃ f, pt c cc0_scratch2 f) ∗ (∃ f, pt c cc0_scratch3 f))

/-- What is handed to the call at launch, and what its invariant starts from. -/
def Tk (c : Dev nD) : sProp 𝕄 := iprop((∃ K, ghost (soOf m) (ssOf m) K c) ∗ credits c)
def Xk (c : Dev nD) : sProp 𝕄 := iprop((∃ K, opened (soOf m) (ssOf m) K c) ∗ credits c ∗ levAts L lv)
/-- What it leaves: the barrier's counter at zero. -/
def Yk (c : Dev nD) : sProp 𝕄 := semVal (barCell c) 0

/-- The four counters of the copies at zero. -/
def dmaZero (c : Dev nD) : sProp 𝕄 := iprop(semVal (outOCell c) 0 ∗ semVal (outSCell c) 0 ∗ semVal (inOCell c) 0 ∗ semVal (inSCell c) 0)

def Φ₀ (c : Dev nD) : sProp 𝕄 := iprop(Xk m c ∗ scrAny c ∗ ∃ r, prngReg c r)
def Φ₁ (c : Dev nD) : sProp 𝕄 := iprop(Yk c ∗ dmaZero c ∗ scrAny c ∗ ∃ r, prngReg c r)

def dats (_ : Fin 1) (c : Dev nD) : Dat τ (Elt F) Unit ℕ UU ℕ cfg0 c where
  A w := V m c (Pipeline.arrRef spec0 w)
  after w _ := match w with
    | ⟨0, _⟩ => xQ m c
    | ⟨1, _⟩ => xK m c
    | ⟨2, _⟩ => xV m c
    | ⟨3, _⟩ => xB m c
    | ⟨4, _⟩ => xL m c
    | ⟨5, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staged input is the array it stages. -/
theorem before_0 (c : Dev nD) (d) : (dats m 0 c).before 0 t0_0 d = xQ m c := by
  unfold Dat.before; rw [if_pos (fetch0_0 t0_0)]
  show ((cfg0.win 0).blk t0_0).view.read (Elt F) (V m c main_v4) = _
  exact Memref.read_access_unit_zero (Elt F) main_v4 (funext fun a => by fin_cases a <;> rfl) _ _
theorem before_1 (c : Dev nD) (d) : (dats m 0 c).before 1 t0_0 d = xK m c := by
  unfold Dat.before; rw [if_pos (fetch0_1 t0_0)]
  show ((cfg0.win 1).blk t0_0).view.read (Elt F) (V m c main_v6) = _
  exact Memref.read_access_unit_zero (Elt F) main_v6 (funext fun a => by fin_cases a <;> rfl) _ _
theorem before_2 (c : Dev nD) (d) : (dats m 0 c).before 2 t0_0 d = xV m c := by
  unfold Dat.before; rw [if_pos (fetch0_2 t0_0)]
  show ((cfg0.win 2).blk t0_0).view.read (Elt F) (V m c main_v8) = _
  exact Memref.read_access_unit_zero (Elt F) main_v8 (funext fun a => by fin_cases a <;> rfl) _ _
theorem before_3 (c : Dev nD) (d) : (dats m 0 c).before 3 t0_0 d = xB m c := by
  unfold Dat.before; rw [if_pos (fetch0_3 t0_0)]
  show ((cfg0.win 3).blk t0_0).view.read (Elt F) (V m c main_arg3) = _
  exact Memref.read_access_unit_zero (Elt F) main_arg3 (funext fun a => by fin_cases a <;> rfl) _ _
theorem before_4 (c : Dev nD) (d) : (dats m 0 c).before 4 t0_0 d = xL m c := by
  unfold Dat.before; rw [if_pos (fetch0_4 t0_0)]
  show ((cfg0.win 4).blk t0_0).view.read (Elt F) (V m c main_v9) = _
  exact Memref.read_access_unit_zero (Elt F) main_v9 (funext fun a => by fin_cases a <;> rfl) _ _

/-- The result's array after the call is what the call returns. -/
theorem arrAt_out (c : Dev nD) : (dats m 0 c).arrAt 5 1 = outOf m c := by
  unfold Dat.arrAt
  rw [dif_pos (by rw [show cfg0.N = 1 from N_0]; decide)]
  dsimp only
  rw [if_pos (flush0_5 _)]
  exact Memref.write_access_unit_zero_univ (Elt F) main_v10 (funext fun a => by fin_cases a <;> rfl) _ _ _

/-! ## The body's obligation -/

/-- A staging buffer owned at contents `X` is the buffer held at `X`. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ pt c b f) := by
  unfold owns pt
  simp only [Memref.view_whole, View.read_whole, View.set_whole]

/-- The core owing `O`, as the call's invariant keeps it, and back. -/
theorem owes_in (c : Dev nD) (t : Fin (cfg0.N + 1)) (O : CellTallies nD τ sig Unit) (h : (dats m 0 c).owed t = O) (W : Waits sig Unit) :
    (owes (c : Thread nD τ) O W : sProp 𝕄) ⊢ (dats m 0 c).owesAt () t := by
  unfold Dat.owesAt Pipeline.owesWithin
  rw [h]
  iintro HO
  iexists W
  isplitr; · ipureintro; exact fun _ _ => Or.inl trivial
  iexact HO
theorem owes_out (c : Dev nD) (t : Fin (cfg0.N + 1)) (O : CellTallies nD τ sig Unit) (h : (dats m 0 c).owed t = O) :
    ((dats m 0 c).owesAt () t : sProp 𝕄) ⊢ iprop(∃ W, owes (c : Thread nD τ) O W) := by
  unfold Dat.owesAt Pipeline.owesWithin
  rw [h]
  iintro ⟨%W, -, HO⟩
  iexists W
  iexact HO

/-- What the pipeline hands the body, and what it takes back. -/
def atEntry (c : Dev nD) : sProp 𝕄 :=
  iprop(Φ₀ m c ∗ (dats m 0 c).owesAt () t0_0.castSucc
    ∗ (∃ d, ∃ f, ⌜f = (dats m 0 c).before 0 t0_0 d⌝ ∗ pt c cc0_stg0_0 f) ∗ (∃ d, ∃ f, ⌜f = (dats m 0 c).before 1 t0_0 d⌝ ∗ pt c cc0_stg1_0 f)
    ∗ (∃ d, ∃ f, ⌜f = (dats m 0 c).before 2 t0_0 d⌝ ∗ pt c cc0_stg2_0 f) ∗ (∃ d, ∃ f, ⌜f = (dats m 0 c).before 3 t0_0 d⌝ ∗ pt c cc0_stg3_0 f)
    ∗ (∃ d, ∃ f, ⌜f = (dats m 0 c).before 4 t0_0 d⌝ ∗ pt c cc0_stg4_0 f) ∗ (∃ d, ∃ f, ⌜f = (dats m 0 c).before 5 t0_0 d⌝ ∗ pt c cc0_stg5_0 f))
def atExit (c : Dev nD) : sProp 𝕄 :=
  iprop(Φ₁ c ∗ (dats m 0 c).owesAt () t0_0.succ
    ∗ (∃ f, ⌜f = xQ m c⌝ ∗ pt c cc0_stg0_0 f) ∗ (∃ f, ⌜f = xK m c⌝ ∗ pt c cc0_stg1_0 f) ∗ (∃ f, ⌜f = xV m c⌝ ∗ pt c cc0_stg2_0 f)
    ∗ (∃ f, ⌜f = xB m c⌝ ∗ pt c cc0_stg3_0 f) ∗ (∃ f, ⌜f = xL m c⌝ ∗ pt c cc0_stg4_0 f) ∗ (∃ f, ⌜f = outOf m c⌝ ∗ pt c cc0_stg5_0 f))

set_option maxRecDepth 16384 in
/-- The body, from what the pipeline hands it, makes what the pipeline takes back. -/
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_stg]
  show atEntry m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5) (fun _ => atExit m c)
  unfold atEntry Φ₀ Xk scrAny
  iintro ⟨⟨⟨⟨%K, Hg⟩, Hc, #Hlev⟩, ⟨G0, G1, G2, G3⟩, Hreg⟩, HO, ⟨%d0, %f0, %e0, H0⟩, ⟨%d1, %f1, %e1, H1⟩, ⟨%d2, %f2, %e2, H2⟩, ⟨%d3, %f3, %e3, H3⟩, ⟨%d4, %f4, %e4, H4⟩,
    ⟨%d5, %f5, %e5, H5⟩⟩
  rw [before_0] at e0
  rw [before_1] at e1
  rw [before_2] at e2
  rw [before_3] at e3
  rw [before_4] at e4
  subst e0 e1 e2 e3 e4
  ihave HO' := (owes_out m c t0_0.castSucc (O₀ c) rfl) $$ HO
  icases HO' with ⟨%W, HO⟩
  iapply (body_run (soOf m) (ssOf m) K c W (xQ m c) (xK m c) (xV m c) (xB m c) (xL m c) rfl rfl fun _ => atExit m c)
  isplitl [Hg Hc H0 H1 H2 H3 H4 H5 G0 G1 G2 G3 HO]
  · unfold bodyPre
    isplitl [Hg]; · iexact Hg
    isplitl [Hc]; · iexact Hc
    isplitr; · iexact Hlev
    isplitl [H0]; · iexact H0
    isplitl [H1]; · iexact H1
    isplitl [H2]; · iexact H2
    isplitl [H3]; · iexact H3
    isplitl [H4]; · iexact H4
    isplitl [H5]; · iexists f5; iexact H5
    isplitl [G0]; · iexact G0
    isplitl [G1]; · iexact G1
    isplitl [G2]; · iexact G2
    isplitl [G3]; · iexact G3
    iexact HO
  unfold bodyPost atExit Φ₁ Yk dmaZero scrAny
  iintro ⟨Hb, Hd, H0, H1, H2, H3, H4, H5, G0, G1, G2, G3, ⟨%W', HO⟩⟩
  isplitl [Hb Hd G0 G1 G2 G3 Hreg]
  · isplitl [Hb]; · iexact Hb
    isplitl [Hd]; · iexact Hd
    isplitl [G0 G1 G2 G3]
    · isplitl [G0]; · iexact G0
      isplitl [G1]; · iexact G1
      isplitl [G2]; · iexact G2
      iexact G3
    iexact Hreg
  isplitl [HO]
  · iapply (owes_in m c t0_0.succ 0 rfl W')
    iexact HO
  isplitl [H0];
  · iexists _
    isplitr; · ipureintro; rfl
    iexact H0
  isplitl [H1];
  · iexists _
    isplitr; · ipureintro; rfl
    iexact H1
  isplitl [H2];
  · iexists _
    isplitr; · ipureintro; rfl
    iexact H2
  isplitl [H3];
  · iexists _
    isplitr; · ipureintro; rfl
    iexact H3
  isplitl [H4];
  · iexists _
    isplitr; · ipureintro; rfl
    iexact H4
  iexists _
  isplitr; · ipureintro; rfl
  iexact H5

end Cert.KernelIdeal.Talk
-- ==== Proof.Launch.lean ====
/- The run of @main on the four devices: the host code, the call and the host code after it as segments, the
   exchange's cells funded at launch, and what every final state holds. -/
module

public import proofs.«01_k».proof.Proof.Region
public import Idealize.ShloMosaic.Lib.Pipeline.FrameTail

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation ucRefs)
open PCS URA Auth
open Cert.KernelIdeal Cert.KernelIdeal.Gen

variable {F : FTy → Type} [FloatOps F] [Named F]
local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := dats m

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-! ## Contents before and after the call -/

/-- The launch contents, and the contents when the call returns: the result's array rewritten. -/
def Vinit (c : Dev nD) : Valuation τ sig (Elt F) := fun b => m (c, b)
def Vret (c : Dev nD) : Valuation τ sig (Elt F) := Function.update (V0 m c) (Proc.devRef .tc main_v10) (outOf m c)
theorem Vret_ne (c : Dev nD) {b : DevRef τ sig} (h : b ≠ Proc.devRef .tc main_v10) : Vret m c b = V0 m c b := Function.update_of_ne h ..
theorem Vret_out (c : Dev nD) : Vret m c (Proc.devRef .tc main_v10) = outOf m c := by
  unfold Vret
  rw [Function.update_self]
/-- The contents at the end. -/
def Vend (c : Dev nD) : Valuation τ sig (Elt F) := StableHlo.after hostOps1 (Vret m c)

/-- The arrays the call's windows name, and the other buffers of a device's TensorCore. -/
abbrev arrs : Finset (DevRef τ sig) := Pipeline.arrRefs (τ := τ) spec0
abbrev rest : Finset (DevRef τ sig) := ucRefs τ sig \ arrs
theorem arrs_sub : arrs ⊆ ucRefs τ sig := Pipeline.arrRefs_sub_ucRefs spec0 (by decide)

theorem out_mem : (Proc.devRef .tc main_v10 : DevRef τ sig) ∈ arrs :=
  Finset.mem_map_of_mem _ (Finset.mem_image.mpr ⟨(5 : Fin 6), Finset.mem_univ _, rfl⟩)

/-! ## The call as a region -/

theorem ownSemFacts : Pipeline.OwnSemFacts spec0 osem := by decide

theorem ownSems_eq (c : Dev nD) : (Pipeline.ownSems0 osem c : sProp 𝕄) = dmaZero c := by
  unfold Pipeline.ownSems0 dmaZero
  exact bigSep_univ_eq_bigSepL [(0 : Fin 4), 1, 2, 3] (by decide) (by decide) (fun k : Fin 4 => (semVal ((c : Thread nD τ), osem k) 0 : sProp 𝕄))

theorem share_full (c : Dev nD) (w) : (pdats (F := F) m 0 c).share w = fullShare := by unfold Dat.share; split <;> rfl

/-- The four own cells opened: each counter moves into its cell. -/
theorem open_cells (c : Dev nD) : iprop(Tk m c ∗ Pipeline.ownSems0 osem c ∗ levAts L lv) ⊢ (|={Set.univ}=> Xk m c : sProp 𝕄) := by
  rw [ownSems_eq]
  unfold Tk Xk dmaZero ghost
  iintro ⟨⟨⟨%K, #HI, HatB, ⟨To, Ts, Ti, Tj⟩, #HrP, Ht⟩, Hc⟩, ⟨So, Ss, Si, Sj⟩, #Hlev⟩
  unfold invs
  icases HI with ⟨#HIbar, #HIoO, #HIoS, #HIiO, #HIiS, #HIbarP, #HIiOP, #HIiSP⟩
  imod (Rounds.cell_open ER (talkRd (soOf m) (ssOf m)) (g := outOCell c) (Set.mem_univ (K (outOCell c)))) $$ [To So] with ⟨Ao, #Ro⟩
  · isplitr; · iexact HIoO
    isplitl [To] <;> iassumption
  imod (Rounds.cell_open ER (talkRd (soOf m) (ssOf m)) (g := outSCell c) (Set.mem_univ (K (outSCell c)))) $$ [Ts Ss] with ⟨As, #Rs⟩
  · isplitr; · iexact HIoS
    isplitl [Ts] <;> iassumption
  imod (Rounds.cell_open ER (talkRd (soOf m) (ssOf m)) (g := inOCell c) (Set.mem_univ (K (inOCell c)))) $$ [Ti Si] with ⟨Ai, #Ri⟩
  · isplitr; · iexact HIiO
    isplitl [Ti] <;> iassumption
  imod (Rounds.cell_open ER (talkRd (soOf m) (ssOf m)) (g := inSCell c) (Set.mem_univ (K (inSCell c)))) $$ [Tj Sj] with ⟨Aj, #Rj⟩
  · isplitr; · iexact HIiS
    isplitl [Tj] <;> iassumption
  imodintro
  isplitl [HatB Ao As Ai Aj Ht]
  · iexists K
    unfold opened invs
    isplitr
    · isplitr; · iexact HIbar
      isplitr; · iexact HIoO
      isplitr; · iexact HIoS
      isplitr; · iexact HIiO
      isplitr; · iexact HIiS
      isplitr; · iexact HIbarP
      isplitr; · iexact HIiOP
      iexact HIiSP
    isplitl [HatB]; · iexact HatB
    isplitl [Ao As Ai Aj]
    · isplitl [Ao]; · iexact Ao
      isplitl [As]; · iexact As
      isplitl [Ai] <;> iassumption
    isplitr
    · isplitr; · iexact Ro
      isplitr; · iexact Rs
      isplitr; · iexact Ri
      iexact Rj
    isplitr; · iexact HrP
    iexact Ht
  isplitl [Hc]; · iexact Hc
  iexact Hlev

theorem held_none (c : Dev nD) (W : Valuation τ sig (Elt F)) : (StableHlo.held (c.tc : Thread nD τ) ∅ W : sProp 𝕄) = BI.emp := by
  unfold StableHlo.held
  exact BI.bigSep_empty

theorem scr_eq (c : Dev nD) : (Pipeline.scopedRest (Ix := Unit) (Name := ℕ) (U := UU) (Lvl := ℕ) (Val := Elt F) spec0 c : sProp 𝕄) = scrAny c :=
  scopedRest0_eq c

theorem region_in (c : Dev nD) : iprop(Pipeline.scopedRest (Pipeline.pin (pcfgs (F := F)) adm 0).spec c ∗ (∃ r, prngReg c r)
      ∗ StableHlo.held (c.tc : Thread nD τ) ∅ (V0 m c) ∗ Xk m c) ⊢ (pdats m 0 c).Φ 0 := by
  rw [show (pdats m 0 c).Φ 0 = Φ₀ m c from rfl, held_none, show Pipeline.scopedRest (Pipeline.pin (pcfgs (F := F)) adm 0).spec c = scrAny c from scr_eq c]
  unfold Φ₀
  iintro ⟨Hs, Hp, -, HX⟩
  isplitl [HX]; · iexact HX
  isplitl [Hs]; · iexact Hs
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vret m c) ∗ Pipeline.ownSems0 osem c ∗ Yk c) := by
  rw [show (pdats m 0 c).Φ (Fin.last _) = Φ₁ c from rfl, held_none, ownSems_eq, show Pipeline.scopedRest (Pipeline.pin (pcfgs (F := F)) adm 0).spec c = scrAny c from scr_eq c]
  unfold Φ₁
  iintro ⟨Hb, Hd, Hs, Hp⟩
  isplitl [Hs]; · iexact Hs
  isplitl [Hp]; · iexact Hp
  isplitr; · iempintro
  isplitl [Hd]; · iexact Hd
  iexact Hb

theorem cut_owed (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have key : 0 < O₀ c g i → i ∈ L g ∧ (0 : ℕ) < lv g i := fun h => by
    rcases O₀_pos h with rfl | rfl | rfl
    · exact ⟨by rw [L_tc]; exact Finset.mem_singleton_self _, by rw [lv_inS]; decide⟩
    · exact ⟨by rw [L_tc]; exact Finset.mem_singleton_self _, by rw [lv_inO]; decide⟩
    · exact ⟨by rw [L_tc]; exact Finset.mem_singleton_self _, by rw [lv_bar]; decide⟩
  obtain ⟨t, ht⟩ := t
  cases t with
  | zero => exact key h
  | succ t => exact absurd h (Nat.lt_irrefl 0)

/-- The pipeline's own semaphores sit below the exchange's. -/
theorem stage_level (c : Dev nD) (w : Fin 6) (s : Fin (spec0 w).nbuf) : lv ((c : Thread nD τ), .dma ((spec0 w).sem s)) () = 0 := by
  have h : ∀ (w : Fin 6) (s : Fin (spec0 w).nbuf), ¬ (SemLoc.dma ((spec0 w).sem s) = (SemLoc.dma inO : SemLoc sig) ∨ SemLoc.dma ((spec0 w).sem s) = (SemLoc.dma inS : SemLoc sig)) := by decide
  unfold lv
  rw [if_neg (dma_ne_bar _), if_neg (h w s)]

theorem arr_before (c : Dev nD) (w : Fin 6) : (dats (F := F) m 0 c).arrAt w 0 = V0 m c (Proc.devRef .tc (Pipeline.arrRef spec0 w)) := rfl

theorem arr_after (c : Dev nD) (w : Fin 6) : (dats (F := F) m 0 c).arrAt w 1 = Vret m c (Proc.devRef .tc (Pipeline.arrRef spec0 w)) := by
  have keep (w : Fin 6) (hin : (cfg0.win w).isOut = false) (hne : Pipeline.arrRef spec0 w ≠ main_v10) :
      (dats (F := F) m 0 c).arrAt w 1 = Vret m c (Proc.devRef .tc (Pipeline.arrRef spec0 w)) := by
    rw [(dats m 0 c).arrAt_in w hin]
    exact (Vret_ne m c (StableHlo.devRef_ne_of_ne hne)).symm
  fin_cases w
  · exact keep 0 rfl (by decide)
  · exact keep 1 rfl (by decide)
  · exact keep 2 rfl (by decide)
  · exact keep 3 rfl (by decide)
  · exact keep 4 rfl (by decide)
  · exact (arrAt_out m c).trans (Vret_out m c).symm

set_option backward.isDefEq.respectTransparency.types false in
/-- The call, which talks to the peer. -/
def reg : ℝ𝕊 0 :=
  Pipeline.RegionSeg.ofTalk (pcfgs (F := F)) adm (pdats m) () defs₀ 𝒱₀ L lv 0 osem ownSemFacts
    ∅ rest (Finset.empty_subset _) launch0.toP rfl (fun c => (body_obligation m c).loose)
    (fun _ => 0) O₀ (fun c => (zero_add (O₀ c)).symm) (fun _ => rfl) (fun _ => rfl) (share_full m)
    (V0 m) (Vret m) (fun c b hb => Vret_ne m c fun h => (Finset.mem_sdiff.mp (Finset.mem_sdiff.mp hb).1).2 (by rw [h]; exact out_mem))
    (Tk m) Yk (Xk m) Yk (open_cells m) (region_in m) (region_out m)
    (fun c => by iintro H; imodintro; iexact H)
    (fun _ => 0)
    ⟨fun c w s => by rw [L_tc]; exact Finset.mem_singleton_self _, fun c w s => (stage_level c w s).le, cut_owed m⟩
    (fun _ => iprop(emp))
    (arr_before m) (arr_after m)

/-! ## @main as segments -/

/-- What rides beside the buffers before the call, and after it. -/
def Rin (c : Dev nD) : sProp 𝕄 := iprop(Tk m c ∗ (∃ r, prngReg c r) ∗ ∃ W, owes (c : Thread nD τ) (O₀ c) W)
def Rout (c : Dev nD) : sProp 𝕄 := iprop(Yk c ∗ (∃ r, prngReg c r) ∗ ∃ W, owes (c : Thread nD τ) (0 : CellTallies nD τ sig Unit) W)

theorem ops_sub (ops : List (HloOp τ sig (Elt F))) (h : ops.Forall fun op => op.bufs ⊆ StableHlo.tcRefs τ sig) : ∀ op ∈ ops, op.bufs ⊆ ucRefs τ sig :=
  fun op hop => Pipeline.sub_ucRefs op (List.forall_iff_forall_mem.mp h op hop)

def seg0 : ℍ := Pipeline.HostSeg.ofOps _ _ _ _ _ (ucRefs τ sig) hostOps0 (ops_sub _ hostOps0_sub) (List.forall_iff_forall_mem.mp hostOps0_fresh) (Vinit m) (Rin m)
def seg1 : ℍ := Pipeline.HostSeg.ofOps _ _ _ _ _ (ucRefs τ sig) hostOps1 (ops_sub _ hostOps1_sub) (List.forall_iff_forall_mem.mp hostOps1_fresh) (Vret m) Rout

theorem reg_pre (c : Dev nD) : iprop(StableHlo.held (c : Thread nD τ) (ucRefs τ sig) (V0 m c) ∗ Rin m c) ⊢ (reg m).pre c := by
  show _ ⊢ iprop(StableHlo.held (c.tc : Thread nD τ) arrs (V0 m c) ∗ (∃ r, prngReg c r)
    ∗ (StableHlo.held (c.tc : Thread nD τ) rest (V0 m c) ∗ emp) ∗ Tk m c ∗ ∃ Wd, owes (c : Thread nD τ) (0 + O₀ c) Wd)
  rw [StableHlo.held_sub_split (c.tc : Thread nD τ) arrs_sub (V0 m c), zero_add]
  unfold Rin
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (ucRefs τ sig) (Vret m c) ∗ Rout c) := by
  show iprop(StableHlo.held (c.tc : Thread nD τ) arrs (Vret m c) ∗ (∃ r, prngReg c r)
    ∗ (StableHlo.held (c.tc : Thread nD τ) rest (Vret m c) ∗ emp) ∗ Yk c ∗ ∃ Wd, owes (c : Thread nD τ) (0 : CellTallies nD τ sig Unit) Wd) ⊢ _
  rw [StableHlo.held_sub_split (c.tc : Thread nD τ) arrs_sub (Vret m c)]
  unfold Rout
  iintro ⟨Ha, Hp, ⟨Hr, -⟩, Hb, HO⟩
  isplitl [Ha Hr]; · isplitl [Ha] <;> iassumption
  isplitl [Hb]; · iexact Hb
  isplitl [Hp]; · iexact Hp
  iexact HO

def segs : List (Pipeline.Seg (pcfgs (F := F)) adm (pdats m) () defs₀ 𝒱₀ L lv) := [.host (seg0 m), .region (reg m), .host (seg1 m)]

/-! ## The launch -/

def barEmb : Dev nD ↪ GSem nD τ sig := ⟨fun c => barCell c, fun _ _ h => congrArg (fun g : GSem nD τ sig => g.1.1) h⟩
def dmaEmb : Dev nD × Fin 4 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, funded with their counters; the cells of the copies, funded without; a token for every duty. -/
abbrev barCells : Finset (GSem nD τ sig) := Finset.univ.map barEmb
abbrev dmaCells : Finset (GSem nD τ sig) := Finset.univ.map dmaEmb
abbrev tsem : Fin 5 → SemLoc sig := fun | 0 => .reg barS | 1 => .dma outO | 2 => .dma outS | 3 => .dma inO | 4 => .dma inS
theorem tsem_inj : Function.Injective tsem := by decide
def talkToks : Finset (GSem nD τ sig × ℕ × Unit) :=
  Finset.univ.map ⟨fun ck : Dev nD × Fin 5 => (((ck.1 : Thread nD τ), tsem ck.2), 0, ()), fun _ _ h =>
    Prod.ext (congrArg (fun t : GSem nD τ sig × ℕ × Unit => t.1.1.1) h) (tsem_inj (congrArg (fun t : GSem nD τ sig × ℕ × Unit => t.1.2) h))⟩

theorem disjoint_cells : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ dmaCells : Finset (GSem nD τ sig)) :=
  Finset.mem_union_left _ (Finset.mem_map_of_mem barEmb (Finset.mem_univ c))
theorem dma_mem (c : Dev nD) (k : Fin 4) : ((c : Thread nD τ), osem k) ∈ (barCells ∪ dmaCells : Finset (GSem nD τ sig)) :=
  Finset.mem_union_right _ (Finset.mem_map_of_mem dmaEmb (Finset.mem_univ (c, k)))

/-- The launch element: the pipeline's part and the exchange's. -/
def u₀ : UU :=
  (initOf (Pipeline.cells (Pipeline.pin (pcfgs (F := F)) adm) cellOf_inj) (Pipeline.launchToks (Pipeline.pin (pcfgs (F := F)) adm) cellOf_inj),
    launchOf barCells dmaCells talkToks)

/-- The exchange's part, kept on device 0 until it is dealt. -/
def G (c : Dev nD) : sProp 𝕄 := if c = 0 then BI.own (ER (launchOf barCells dmaCells talkToks)) else iprop(emp)
theorem bigSep_G : bigSep Finset.univ (G (F := F)) = BI.own (ER (launchOf barCells dmaCells talkToks)) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult: all the invariants; round 0 of every barrier cell reached. -/
def records (κ : GSem nD τ sig → ℕ) : sProp 𝕄 :=
  iprop((bigSep (barCells ∪ dmaCells) fun g => cellInv ER (talkRd (soOf m) (ssOf m)) (κ g) g) ∗ bigSep barCells fun g => reached ER g 0)

instance records_persistent (κ : GSem nD τ sig → ℕ) : BI.Persistent (records m κ) := by unfold records; infer_instance

/-- What device `c` gets for itself. -/
def linear (c : Dev nD) : sProp 𝕄 :=
  iprop(atPos ER (barCell c) 0 ∅ 0 ∗ (openTok ER (outOCell c) ∗ openTok ER (outSCell c) ∗ openTok ER (inOCell c) ∗ openTok ER (inSCell c)) ∗ payToks c)

theorem ghost_intro (κ : GSem nD τ sig → ℕ) (c : Dev nD) : iprop(records m κ ∗ linear c) ⊢ iprop(∃ K, ghost (soOf m) (ssOf m) K c) := by
  have inv {g : GSem nD τ sig} (hg : g ∈ (barCells ∪ dmaCells : Finset (GSem nD τ sig))) :
      (bigSep (barCells ∪ dmaCells) fun g => (cellInv ER (talkRd (soOf m) (ssOf m)) (κ g) g : sProp 𝕄)) ⊢ cellInv ER (talkRd (soOf m) (ssOf m)) (κ g) g := bigSep_elim hg
  unfold records linear ghost invs
  iintro ⟨⟨#HI, #HR⟩, HaB, Ho, Ht⟩
  iexists κ
  isplitr
  · isplitr; · iapply (inv (bar_mem c)); iexact HI
    isplitr; · iapply (inv (dma_mem c 0)); iexact HI
    isplitr; · iapply (inv (dma_mem c 1)); iexact HI
    isplitr; · iapply (inv (dma_mem c 2)); iexact HI
    isplitr; · iapply (inv (dma_mem c 3)); iexact HI
    isplitr; · iapply (inv (bar_mem (pr c))); iexact HI
    isplitr; · iapply (inv (dma_mem (pr c) 2)); iexact HI
    iapply (inv (dma_mem (pr c) 3)); iexact HI
  isplitl [HaB]; · iexact HaB
  isplitl [Ho]; · iexact Ho
  isplitr
  · iapply (show (bigSep barCells fun g => (reached ER g 0 : sProp 𝕄)) ⊢ reached ER (barCell (pr c)) 0 from
      bigSep_elim (Finset.mem_map_of_mem barEmb (Finset.mem_univ (pr c))))
    iexact HR
  iexact Ht

theorem toks_eq : bigSep talkToks (fun x => (dutyTok ER x.1 x.2.1 x.2.2 : sProp 𝕄))
    = bigSep Finset.univ fun c : Dev nD => iprop(dutyTok ER (barCell c) 0 () ∗ dutyTok ER (outOCell c) 0 () ∗ dutyTok ER (outSCell c) 0 ()
      ∗ dutyTok ER (inOCell c) 0 () ∗ dutyTok ER (inSCell c) 0 ()) := by
  unfold talkToks; rw [bigSep_map, bigSep_univ_prod]
  exact bigSep_congr fun c _ => bigSep_univ_eq_bigSepL [(0 : Fin 5), 1, 2, 3, 4] (by decide) (by decide)
    (fun k : Fin 5 => (dutyTok ER ((c : Thread nD τ), tsem k) 0 () : sProp 𝕄))

/-- The tokens of the barrier and of the two arrivals go to the peer, who discharges them. -/
theorem toks_dealt : bigSep talkToks (fun x => (dutyTok ER x.1 x.2.1 x.2.2 : sProp 𝕄)) ⊢ bigSep Finset.univ fun c : Dev nD => (payToks c : sProp 𝕄) := by
  rw [toks_eq]
  unfold payToks
  rw [bigSep_sep', bigSep_sep', bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => (dutyTok ER (inOCell c) 0 () : sProp 𝕄)),
    bigSep_univ_equiv swap (fun c : Dev nD => (dutyTok ER (inSCell c) 0 () : sProp 𝕄))]
  exact BI.Entails.refl _

/-! ### The credit dealt at launch -/

theorem tally_self (d c : Dev nD) (sm : SemLoc sig) (n : ℕ) :
    (tallyAt ((pr d : Thread nD τ), sm) () n : CellTallies nD τ sig Unit) ((c : Thread nD τ), sm) () = if d = pr c then n else 0 := by
  rw [tallyAt_apply]
  by_cases h : d = pr c
  · subst h; rw [pr_pr, if_pos ⟨rfl, rfl⟩, if_pos rfl]
  · rw [if_neg (fun ⟨h1, _⟩ => h (by rw [← pr_pr d]; exact congrArg pr (Fin.ext (congrArg (fun g : GSem nD τ sig => g.1.1.val) h1)).symm)), if_neg h]

theorem tally_other (d c : Dev nD) {sm sm' : SemLoc sig} (h : sm ≠ sm') (n : ℕ) :
    (tallyAt ((pr d : Thread nD τ), sm') () n : CellTallies nD τ sig Unit) ((c : Thread nD τ), sm) () = 0 := by
  rw [tallyAt_ne_cell (fun e => h (congrArg Prod.snd e))]; rfl

theorem inO_ne_inS : (SemLoc.dma inO : SemLoc sig) ≠ .dma inS := by decide

theorem owed_bar (d c : Dev nD) : O₀ d (barCell c) () = if d = pr c then 1 else 0 := by
  unfold O₀ O₁
  rw [Pi.add_apply, Finsupp.add_apply, Pi.add_apply, Finsupp.add_apply, tally_other d c (dma_ne_bar _).symm, tally_other d c (dma_ne_bar _).symm, tally_self,
    Nat.zero_add]
theorem owed_inO (d c : Dev nD) : O₀ d (inOCell c) () = if d = pr c then NO else 0 := by
  unfold O₀ O₁
  rw [Pi.add_apply, Finsupp.add_apply, Pi.add_apply, Finsupp.add_apply, tally_other d c inO_ne_inS, tally_other d c (dma_ne_bar _), tally_self,
    Nat.zero_add, Nat.add_zero]
theorem owed_inS (d c : Dev nD) : O₀ d (inSCell c) () = if d = pr c then NS else 0 := by
  unfold O₀ O₁
  rw [Pi.add_apply, Finsupp.add_apply, Pi.add_apply, Finsupp.add_apply, tally_other d c inO_ne_inS.symm, tally_other d c (dma_ne_bar _), tally_self,
    Nat.add_zero]

theorem launch_of (c : Dev nD) (sm : SemLoc sig) (n : ℕ) (h : ∀ d, O₀ d ((c : Thread nD τ), sm) () = if d = pr c then n else 0) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (pr c) fun _ => n,
    if_pos (Finset.mem_univ _)]

theorem creds (c : Dev nD) : (Pipeline.launchCred O₀ c : sProp 𝕄) ⊢ credits c := by
  unfold Pipeline.launchCred credits
  rw [bigSep_univ_at _ (SemLoc.reg barS), launch_of c _ 1 (owed_bar · c)]
  refine sep_mono_right ?_
  rw [bigSep_erase (Finset.mem_erase.mpr ⟨dma_ne_bar inO, Finset.mem_univ _⟩), launch_of c _ NO (owed_inO · c)]
  refine sep_mono_right ?_
  rw [← launch_of c _ NS (owed_inS · c)]
  exact bigSep_elim (Finset.mem_erase.mpr ⟨inO_ne_inS.symm, Finset.mem_erase.mpr ⟨dma_ne_bar inS, Finset.mem_univ _⟩⟩)

/-! ### The run -/

abbrev T₀ (c : Dev nD) : sProp 𝕄 := iprop(StableHlo.held (c : Thread nD τ) (ucRefs τ sig) (Vinit m c) ∗ Rin m c)
abbrev Tₙ (c : Dev nD) : sProp 𝕄 := iprop(StableHlo.held (c : Thread nD τ) (ucRefs τ sig) (Vend m c) ∗ semVal (barCell c) 0)

/-- What a device holds at launch beside the exchange's state. -/
def bundle (c : Dev nD) : sProp 𝕄 :=
  iprop(StableHlo.held (c : Thread nD τ) (ucRefs τ sig) (Vinit m c) ∗ credits c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ Rin Tk
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

theorem unscoped_sem : ∀ sm : SemLoc sig, sm.isScoped .tc = false → sm = .reg barS := by decide

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (ucRefs τ sig) (Vinit m c) from Pipeline.unscopedBufs_held c (Vinit m c),
      unscopedSems_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => iprop(openTok ER (outOCell c) ∗ openTok ER (outSCell c) ∗ openTok ER (inOCell c) ∗ openTok ER (inSCell c))) :=
    Entails.of_eq (by
      rw [bigSep_map, bigSep_univ_prod]
      exact bigSep_congr fun c _ => bigSep_univ_eq_bigSepL [(0 : Fin 4), 1, 2, 3] (by decide) (by decide) (fun k : Fin 4 => (openTok ER ((c : Thread nD τ), osem k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (bigSep_G (F := F))) $$ HG
  imod (Rounds.fund_launch ER (talkRd (soOf m) (ssOf m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (toks_dealt (F := F)) $$ Htok
  · iexact HB

set_option backward.isDefEq.respectTransparency.types false in
/-- From any memory with zero counters, every fair execution of @main on the four devices ends, with every counter at
    zero and every unscoped buffer of device `c` at `Vend m c`. -/
theorem run_main [∀ e, Nonempty (Elt F e)] : θ_run defs (onTc (τ := τ) (main (F := F))) ⟨m, fun _ => 0, ρ⟩
    (fun r => (∀ c : Dev nD, ∀ b ∈ ucRefs τ sig, r.2.mem (c, b) = Vend m c b) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (reg m) rfl rfl c]; exact .rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := by
      refine ⟨fun c => .rfl, fun c => reg_pre m c, fun c => reg_post m c, fun c => ?_⟩
      show iprop(StableHlo.held (c : Thread nD τ) (ucRefs τ sig) (Vend m c) ∗ Rout c)
        ⊢ iprop(Tₙ m c ∗ ∃ W, owes (c : Thread nD τ) (0 : CellTallies nD τ sig Unit) W)
      unfold Rout Tₙ Yk
      iintro ⟨Hh, Hb, -, HO⟩
      isplitr [HO]
      · isplitl [Hh] <;> iassumption
      · iexact HO)
    (hinit := init m ρ)
    (QY := fun c s => (∀ b ∈ ucRefs τ sig, s.mem (c, b) = Vend m c b) ∧ s.sem (barCell c) = 0)
    (hfin := fun c s' => by
      dsimp only [Tₙ]
      unfold StableHlo.held
      iintro ⟨⟨Hh, Hb⟩, HSI⟩
      icombine HSI Hb gives %hb
      ihave Hr := (pointsTo_read_all (ucRefs τ sig) (fun b => ((c.tc : Thread nD τ).1, b)) (Vend m c) s') $$ [Hh HSI]
      · isplitl [Hh] <;> iassumption
      icases Hr with ⟨%hr, HSI⟩
      imodintro
      isplitr
      · ipureintro
        exact ⟨hr, by simpa using hb⟩
      iexact HSI)
    (hQ := fun s h hs => ⟨fun c b hb => (h c).1 b hb, sem_eq_zero hs fun c sm hsm => by
        obtain rfl := unscoped_sem sm hsm
        exact (h c).2⟩)

end Cert.KernelIdeal.Talk
-- ==== Proof.SameText.lean ====
/- The original program is the idealised program's text with the mask constant's bit pattern where the other names it:
   at bit patterns, the name read as that pattern, the two are the same program, part by part. -/
module

public import proofs.«01_k».proof.Defs
public import proofs.«01_k».proof.Proof.Gen.KernelIdeal
public import proofs.«01_k».proof.Proof.Gen.Kernel

@[expose] public section

noncomputable section

namespace Cert.KernelIdeal.Talk

open Idealize.ShloMosaic Idealize.ShloMosaic.TcCoe

/-- At bit patterns the named constant is the pattern the original program writes. -/
@[reducible] def namedBits : Named Bits where
  named _ _ _ bits := FloatOps.ofBits _ bits

attribute [local instance] namedBits

set_option maxHeartbeats 1000000
theorem k0_part1_eq : Cert.Kernel.k0_part1 (F := Bits) = Cert.KernelIdeal.k0_part1 (F := Bits) := by
  delta Cert.Kernel.k0_part1 Cert.KernelIdeal.k0_part1
  rfl
theorem k0_part2_eq : Cert.Kernel.k0_part2 (F := Bits) = Cert.KernelIdeal.k0_part2 (F := Bits) := by
  delta Cert.Kernel.k0_part2 Cert.KernelIdeal.k0_part2
  rfl
theorem k0_part3_eq : Cert.Kernel.k0_part3 (F := Bits) = Cert.KernelIdeal.k0_part3 (F := Bits) := by
  delta Cert.Kernel.k0_part3 Cert.KernelIdeal.k0_part3
  rfl
theorem k0_part4_eq : Cert.Kernel.k0_part4 (F := Bits) = Cert.KernelIdeal.k0_part4 (F := Bits) := by
  delta Cert.Kernel.k0_part4 Cert.KernelIdeal.k0_part4
  rfl
theorem k0_part5_eq : Cert.Kernel.k0_part5 (F := Bits) = Cert.KernelIdeal.k0_part5 (F := Bits) := by
  delta Cert.Kernel.k0_part5 Cert.KernelIdeal.k0_part5
  rfl
theorem k0_part6_eq : Cert.Kernel.k0_part6 (F := Bits) = Cert.KernelIdeal.k0_part6 (F := Bits) := by
  delta Cert.Kernel.k0_part6 Cert.KernelIdeal.k0_part6
  rfl
theorem k0_part7_eq : Cert.Kernel.k0_part7 (F := Bits) = Cert.KernelIdeal.k0_part7 (F := Bits) := by
  delta Cert.Kernel.k0_part7 Cert.KernelIdeal.k0_part7
  rfl
theorem k0_part8_eq : Cert.Kernel.k0_part8 (F := Bits) = Cert.KernelIdeal.k0_part8 (F := Bits) := by
  delta Cert.Kernel.k0_part8 Cert.KernelIdeal.k0_part8
  rfl
theorem k0_part9_eq : Cert.Kernel.k0_part9 (F := Bits) = Cert.KernelIdeal.k0_part9 (F := Bits) := by
  delta Cert.Kernel.k0_part9 Cert.KernelIdeal.k0_part9
  rfl
theorem k0_part10_eq : Cert.Kernel.k0_part10 (F := Bits) = Cert.KernelIdeal.k0_part10 (F := Bits) := by
  delta Cert.Kernel.k0_part10 Cert.KernelIdeal.k0_part10
  rfl
theorem k0_part11_eq : Cert.Kernel.k0_part11 (F := Bits) = Cert.KernelIdeal.k0_part11 (F := Bits) := by
  delta Cert.Kernel.k0_part11 Cert.KernelIdeal.k0_part11
  rfl
theorem k0_part12_eq : Cert.Kernel.k0_part12 (F := Bits) = Cert.KernelIdeal.k0_part12 (F := Bits) := by
  delta Cert.Kernel.k0_part12 Cert.KernelIdeal.k0_part12
  rfl
theorem k0_part13_eq : Cert.Kernel.k0_part13 (F := Bits) = Cert.KernelIdeal.k0_part13 (F := Bits) := by
  delta Cert.Kernel.k0_part13 Cert.KernelIdeal.k0_part13
  rfl
theorem k0_part14_eq : Cert.Kernel.k0_part14 (F := Bits) = Cert.KernelIdeal.k0_part14 (F := Bits) := by
  delta Cert.Kernel.k0_part14 Cert.KernelIdeal.k0_part14
  rfl
theorem k0_part15_eq : Cert.Kernel.k0_part15 (F := Bits) = Cert.KernelIdeal.k0_part15 (F := Bits) := by
  delta Cert.Kernel.k0_part15 Cert.KernelIdeal.k0_part15
  rfl
theorem cc0_body_eq : Cert.Kernel.cc0_body (F := Bits) = Cert.KernelIdeal.cc0_body (F := Bits) := by
  delta Cert.Kernel.cc0_body Cert.KernelIdeal.cc0_body
  rfl

/-- The body tables agree. -/
theorem defs₀_eq : Cert.Kernel.defs₀ (F := Bits) = Cert.KernelIdeal.defs₀ (F := Bits) := by
  refine congrArg Defs.onTc (funext fun l => funext fun a => ?_)
  match l, a with
  | 0, (t, s) =>
    dsimp only
    rw [cc0_body_eq]
theorem defs_eq : Cert.Kernel.defs (F := Bits) = Cert.KernelIdeal.defs (F := Bits) :=
  congrArg (Pipeline.defs Cert.KernelIdeal.pcfgs) defs₀_eq

/-- The two @main agree. -/
theorem main_eq : Cert.Kernel.main (F := Bits) = Cert.KernelIdeal.main (F := Bits) := by
  delta Cert.Kernel.main Cert.KernelIdeal.main
  rfl

end Cert.KernelIdeal.Talk

end
-- ==== Proof.Frames.lean ====
/- What the run says of the five arguments: they end as launched, every counter at zero — over any values, so for the
   program read at floats bit for bit and at extended reals. -/
module

public import proofs.«01_k».proof.Defs
public import proofs.«01_k».proof.Proof.Launch
public import proofs.«01_k».proof.Proof.SameText

@[expose] public section

noncomputable section

namespace Cert.KernelIdeal.Talk

open Idealize.ShloMosaic Idealize.ShloMosaic.TcCoe
open Idealize.SL.Sem
open Idealize.ShloMosaic.Pipeline (ucRefs)
open Cert.KernelIdeal Cert.KernelIdeal.Gen

variable {F : FTy → Type} [FloatOps F] [Named F]
variable (m : (ℓ : Loc nD τ sig) → Buf (Elt F) ℓ) (ρ : Dev nD → PrngReg)

/-- No host operation writes `main_arg0`, nor does the call: it ends as launched. -/
theorem Vend_arg0 (c : Dev nD) : Vend m c (Proc.devRef .tc main_arg0) = m ((c : Thread nD τ).loc main_arg0) := by
  unfold Vend
  rw [StableHlo.after_of_forall_not_mem (b := Proc.devRef .tc main_arg0) _ _ (List.forall_iff_forall_mem.mp (by
      simp only [hostOps1, List.Forall, StableHlo.unary_writes, StableHlo.reshape_writes, Finset.mem_singleton]
      repeat' apply And.intro
      all_goals exact StableHlo.devRef_ne_of_ne (by decide))), Vret_ne m c (StableHlo.devRef_ne_of_ne (by decide))]
  exact V_main_arg0 m c

/-- No host operation writes `main_arg1`, nor does the call: it ends as launched. -/
theorem Vend_arg1 (c : Dev nD) : Vend m c (Proc.devRef .tc main_arg1) = m ((c : Thread nD τ).loc main_arg1) := by
  unfold Vend
  rw [StableHlo.after_of_forall_not_mem (b := Proc.devRef .tc main_arg1) _ _ (List.forall_iff_forall_mem.mp (by
      simp only [hostOps1, List.Forall, StableHlo.unary_writes, StableHlo.reshape_writes, Finset.mem_singleton]
      repeat' apply And.intro
      all_goals exact StableHlo.devRef_ne_of_ne (by decide))), Vret_ne m c (StableHlo.devRef_ne_of_ne (by decide))]
  exact V_main_arg1 m c

/-- No host operation writes `main_arg2`, nor does the call: it ends as launched. -/
theorem Vend_arg2 (c : Dev nD) : Vend m c (Proc.devRef .tc main_arg2) = m ((c : Thread nD τ).loc main_arg2) := by
  unfold Vend
  rw [StableHlo.after_of_forall_not_mem (b := Proc.devRef .tc main_arg2) _ _ (List.forall_iff_forall_mem.mp (by
      simp only [hostOps1, List.Forall, StableHlo.unary_writes, StableHlo.reshape_writes, Finset.mem_singleton]
      repeat' apply And.intro
      all_goals exact StableHlo.devRef_ne_of_ne (by decide))), Vret_ne m c (StableHlo.devRef_ne_of_ne (by decide))]
  exact V_main_arg2 m c

/-- No host operation writes `main_arg3`, nor does the call: it ends as launched. -/
theorem Vend_arg3 (c : Dev nD) : Vend m c (Proc.devRef .tc main_arg3) = m ((c : Thread nD τ).loc main_arg3) := by
  unfold Vend
  rw [StableHlo.after_of_forall_not_mem (b := Proc.devRef .tc main_arg3) _ _ (List.forall_iff_forall_mem.mp (by
      simp only [hostOps1, List.Forall, StableHlo.unary_writes, StableHlo.reshape_writes, Finset.mem_singleton]
      repeat' apply And.intro
      all_goals exact StableHlo.devRef_ne_of_ne (by decide))), Vret_ne m c (StableHlo.devRef_ne_of_ne (by decide))]
  exact V_main_arg3 m c

/-- No host operation writes `main_arg4`, nor does the call: it ends as launched. -/
theorem Vend_arg4 (c : Dev nD) : Vend m c (Proc.devRef .tc main_arg4) = m ((c : Thread nD τ).loc main_arg4) := by
  unfold Vend
  rw [StableHlo.after_of_forall_not_mem (b := Proc.devRef .tc main_arg4) _ _ (List.forall_iff_forall_mem.mp (by
      simp only [hostOps1, List.Forall, StableHlo.unary_writes, StableHlo.reshape_writes, Finset.mem_singleton]
      repeat' apply And.intro
      all_goals exact StableHlo.devRef_ne_of_ne (by decide))), Vret_ne m c (StableHlo.devRef_ne_of_ne (by decide))]
  exact V_main_arg4 m c

/-- The run, read at the arguments and at the result. -/
theorem run_args [∀ e, Nonempty (Elt F e)] : θ_run defs (onTc (τ := τ) (main (F := F))) ⟨m, fun _ => 0, ρ⟩
    (fun r => (∀ c : Dev nD, r.2.mem ((c.tc : Thread nD τ).loc main_v12) = Vend m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨h.1 c _ (Pipeline.devRef_mem_ucRefs (by decide)),
    (h.1 c _ (Pipeline.devRef_mem_ucRefs (by decide))).trans (Vend_arg0 m c),
    (h.1 c _ (Pipeline.devRef_mem_ucRefs (by decide))).trans (Vend_arg1 m c),
    (h.1 c _ (Pipeline.devRef_mem_ucRefs (by decide))).trans (Vend_arg2 m c),
    (h.1 c _ (Pipeline.devRef_mem_ucRefs (by decide))).trans (Vend_arg3 m c),
    (h.1 c _ (Pipeline.devRef_mem_ucRefs (by decide))).trans (Vend_arg4 m c)⟩, h.2⟩) (run_main m ρ)

/-- The run, read at the arguments alone. -/
theorem run_frame [∀ e, Nonempty (Elt F e)] : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_args m ρ)

/-- The idealised program's frame. -/
theorem frame_ideal : Cert.quiescent_KernelIdeal := fun m ρ _ => run_frame (F := Ideal) m ρ

attribute [local instance] namedBits

/-- The original program's frame: its text is this program's with the constant's pattern in place of its name. -/
theorem frame_bits : Cert.quiescent_Kernel := fun m ρ _ => by
  rw [defs_eq, main_eq]
  exact run_frame (F := Bits) m ρ

end Cert.KernelIdeal.Talk

end
-- ==== Proof.Maths.lean ====
/- The arithmetic of a softmax whose keys are split between two devices, over the extended reals: the exponentials are weighed by how
   often a key is listed, a weight of nothing is a score of −∞, and the values may be infinite. -/
module

public import Idealize.ShloMosaic.Lib.IdealHost
public import Mathlib.Data.EReal.Operations
public import Mathlib.Data.EReal.Inv
public import Mathlib.Analysis.SpecialFunctions.Log.Basic

@[expose] public section

noncomputable section

namespace Cert.KernelIdeal.Talk

open Idealize.ShloMosaic

/-- The score `x` stands for the weight `g`: it is −∞ for the weight 0, and the logarithm of `g` otherwise. -/
def Weighs (x : EReal) (g : ℝ) : Prop := (x = ⊥ ∧ g = 0) ∨ ∃ s : ℝ, x = (s : EReal) ∧ g = Real.exp s

/-- What one device knows of a row: `Z` is the sum of the weights and `A` the sum of the values so weighed; `M` is the maximum of the
    scores, and `L` and `O` are `Z` and `A` divided by `exp M`. Without any weight all of them are nothing. -/
def Lane (Z : ℝ) (A M L O : EReal) : Prop :=
  (M = ⊥ ∧ L = 0 ∧ O = 0 ∧ Z = 0 ∧ A = 0) ∨ ∃ μ : ℝ, M = (μ : EReal) ∧ L = ((Z * Real.exp (-μ) : ℝ) : EReal) ∧ O = A * ((Real.exp (-μ) : ℝ) : EReal)

/-- A weight is not negative. -/
theorem Weighs.nonneg {x : EReal} {g : ℝ} (h : Weighs x g) : 0 ≤ g := by
  rcases h with ⟨-, rfl⟩ | ⟨s, -, rfl⟩
  · exact le_refl 0
  · exact (Real.exp_pos s).le

/-- The exponential of a score, a real number taken away from it. -/
theorem Weighs.exp_sub {x : EReal} {g : ℝ} (h : Weighs x g) (μ : ℝ) : Ideal.exp (x - (μ : EReal)) = ((g * Real.exp (-μ) : ℝ) : EReal) := by
  rcases h with ⟨rfl, rfl⟩ | ⟨s, rfl, rfl⟩
  · rw [EReal.bot_sub, Ideal.exp_bot, zero_mul, EReal.coe_zero]
  · rw [← EReal.coe_sub, Ideal.exp_coe, sub_eq_add_neg, Real.exp_add]

/-- The sum of products with nonnegative factors, each multiplied by one more nonnegative number. -/
theorem sum_mul_coe {ι : Type} (s : Finset ι) (f : ι → EReal) {r : ℝ} (hr : 0 ≤ r) : ∑ i ∈ s, f i * (r : EReal) = (∑ i ∈ s, f i) * (r : EReal) := by
  classical
  induction s using Finset.induction_on with
  | empty => rw [Finset.sum_empty, Finset.sum_empty, zero_mul]
  | insert i s hi ih =>
    rw [Finset.sum_insert hi, Finset.sum_insert hi, ih, EReal.right_distrib_of_nonneg_of_ne_top (EReal.coe_nonneg.2 hr) (EReal.coe_ne_top r)]

/-- A sum of real numbers is the same among the extended reals. -/
theorem sum_coe {ι : Type} (s : Finset ι) (f : ι → ℝ) : ∑ i ∈ s, (f i : EReal) = ((∑ i ∈ s, f i : ℝ) : EReal) := by
  classical
  induction s using Finset.induction_on with
  | empty => rw [Finset.sum_empty, Finset.sum_empty, EReal.coe_zero]
  | insert i s hi ih => rw [Finset.sum_insert hi, Finset.sum_insert hi, ih, EReal.coe_add]

section Row

variable {ι : Type} [Fintype ι] {S : ι → EReal} {g : ι → ℝ}

/-- The maximum of the scores is −∞ where no key weighs anything, and a real number otherwise. -/
theorem max_cases (h : ∀ i, Weighs (S i) (g i)) :
    (Finset.univ.fold max ⊥ S = ⊥ ∧ ∀ i, S i = ⊥ ∧ g i = 0) ∨ ∃ μ : ℝ, Finset.univ.fold max ⊥ S = (μ : EReal) := by
  have hsup : Finset.univ.fold max ⊥ S = Finset.univ.sup S := rfl
  rw [hsup]
  by_cases hb : Finset.univ.sup S = ⊥
  · left
    refine ⟨hb, fun i => ?_⟩
    have hi : S i = ⊥ := le_bot_iff.1 (hb ▸ Finset.le_sup (Finset.mem_univ i))
    refine ⟨hi, ?_⟩
    rcases h i with ⟨-, hg⟩ | ⟨s, hs, -⟩
    · exact hg
    · exact absurd (hs.symm.trans hi) (EReal.coe_ne_bot s)
  · right
    have ht : Finset.univ.sup S ≠ ⊤ := by
      refine ne_of_lt ((Finset.sup_lt_iff (bot_lt_top)).2 fun i _ => ?_)
      rcases h i with ⟨hs, -⟩ | ⟨s, hs, -⟩
      · rw [hs]; exact bot_lt_top
      · rw [hs]; exact EReal.coe_lt_top s
    exact ⟨_, (EReal.coe_toReal ht hb).symm⟩

/-- One device's row, from its scores and its values. -/
theorem lane (h : ∀ i, Weighs (S i) (g i)) (V : ι → EReal) :
    Lane (∑ i, g i) (∑ i, (g i : EReal) * V i) (Finset.univ.fold max ⊥ S) (∑ i, Ideal.exp (S i - Finset.univ.fold max ⊥ S))
      (∑ i, Ideal.exp (S i - Finset.univ.fold max ⊥ S) * V i) := by
  rcases max_cases h with ⟨hM, hz⟩ | ⟨μ, hM⟩
  · left
    have he : ∀ i, Ideal.exp (S i - Finset.univ.fold max ⊥ S) = 0 := fun i => by rw [hM, (hz i).1, EReal.bot_sub, Ideal.exp_bot]
    refine ⟨hM, Finset.sum_eq_zero fun i _ => he i, Finset.sum_eq_zero fun i _ => by rw [he i, zero_mul], Finset.sum_eq_zero fun i _ => (hz i).2,
      Finset.sum_eq_zero fun i _ => by rw [(hz i).2, EReal.coe_zero, zero_mul]⟩
  · right
    refine ⟨μ, hM, ?_, ?_⟩
    · rw [hM, Finset.sum_congr rfl fun i _ => (h i).exp_sub μ, sum_coe, ← Finset.sum_mul]
    · rw [hM, ← sum_mul_coe _ _ (Real.exp_pos (-μ)).le]
      refine Finset.sum_congr rfl fun i _ => ?_
      rw [(h i).exp_sub μ, EReal.coe_mul, mul_right_comm]

/-- A row whose exponentials are divided by their sum before the values are multiplied in. -/
theorem softmax_row (h : ∀ i, Weighs (S i) (g i)) (hZ : 0 < ∑ i, g i) (V : ι → EReal) :
    ∑ i, V i * Ideal.div (Ideal.exp (S i - Finset.univ.fold max ⊥ S)) (∑ k, Ideal.exp (S k - Finset.univ.fold max ⊥ S))
      = (∑ i, (g i : EReal) * V i) * (((∑ i, g i)⁻¹ : ℝ) : EReal) := by
  rcases max_cases h with ⟨-, hz⟩ | ⟨μ, hM⟩
  · exact absurd (Finset.sum_eq_zero fun i _ => (hz i).2) hZ.ne'
  · have hL : ∑ k, Ideal.exp (S k - Finset.univ.fold max ⊥ S) = (((∑ i, g i) * Real.exp (-μ) : ℝ) : EReal) := by
      rw [hM, Finset.sum_congr rfl fun i _ => (h i).exp_sub μ, sum_coe, ← Finset.sum_mul]
    rw [hL, hM, ← sum_mul_coe _ _ (inv_pos.2 hZ).le]
    refine Finset.sum_congr rfl fun i _ => ?_
    have hc := Real.exp_pos (-μ)
    rw [(h i).exp_sub μ, Ideal.div_coe (mul_pos hZ hc).ne', ← EReal.coe_mul, mul_comm (V i), mul_right_comm (g i : EReal) (V i), ← EReal.coe_mul]
    congr 2
    field_simp

end Row

/-- Either device's share, brought to the common maximum `ν`. -/
theorem Lane.scale {Z : ℝ} {A M L O : EReal} (h : Lane Z A M L O) (ν : ℝ) :
    L * Ideal.exp (M - (ν : EReal)) = ((Z * Real.exp (-ν) : ℝ) : EReal) ∧ O * Ideal.exp (M - (ν : EReal)) = A * ((Real.exp (-ν) : ℝ) : EReal) := by
  rcases h with ⟨rfl, rfl, rfl, rfl, rfl⟩ | ⟨μ, rfl, rfl, rfl⟩
  · simp only [zero_mul, EReal.coe_zero, and_self]
  · have he : Real.exp (-μ) * Real.exp (μ - ν) = Real.exp (-ν) := by rw [← Real.exp_add]; congr 1; ring
    rw [← EReal.coe_sub, Ideal.exp_coe, ← EReal.coe_mul, mul_assoc A, ← EReal.coe_mul, mul_assoc, he]
    exact ⟨rfl, rfl⟩

/-- The two devices' rows put together: the weighed values of both, divided by the weights of both. -/
theorem merge {Z Z' : ℝ} {A A' M M' L L' O O' : EReal} (h : Lane Z A M L O) (h' : Lane Z' A' M' L' O') (hZ : 0 < Z + Z') :
    Ideal.div (O * Ideal.exp (M - max M M') + O' * Ideal.exp (M' - max M M')) (L * Ideal.exp (M - max M M') + L' * Ideal.exp (M' - max M M'))
      = (A + A') * (((Z + Z')⁻¹ : ℝ) : EReal) := by
  obtain ⟨ν, hν⟩ : ∃ ν : ℝ, max M M' = (ν : EReal) := by
    rcases h with ⟨hM, -, -, hz, -⟩ | ⟨μ, hM, -⟩ <;> rcases h' with ⟨hM', -, -, hz', -⟩ | ⟨μ', hM', -⟩
    · exact absurd (by rw [hz, hz', add_zero]) hZ.ne'
    · exact ⟨μ', by rw [hM, hM', bot_sup_eq]⟩
    · exact ⟨μ, by rw [hM, hM', sup_bot_eq]⟩
    · exact ⟨max μ μ', by rw [hM, hM', EReal.coe_strictMono.monotone.map_max]⟩
  have hc := Real.exp_pos (-ν)
  rw [hν, (h.scale ν).1, (h.scale ν).2, (h'.scale ν).1, (h'.scale ν).2, ← EReal.coe_add, ← add_mul Z, Ideal.div_coe (mul_pos hZ hc).ne',
    ← EReal.right_distrib_of_nonneg_of_ne_top (EReal.coe_nonneg.2 hc.le) (EReal.coe_ne_top _), mul_assoc, ← EReal.coe_mul]
  congr 2
  field_simp

end Cert.KernelIdeal.Talk

end
-- ==== Proof.Words.lean ====
/- The page of a token as the two programs compute it on words, and the counts that a mask of words gives. -/
module

public import proofs.«01_k».proof.Proof.Maths
public import Idealize.ShloMosaic.Lib.WordCmp
public import Idealize.ShloMosaic.Lib.Pointwise

@[expose] public section

noncomputable section

namespace Cert.KernelIdeal.Talk

open Idealize.ShloMosaic

/-- `T // 16` as the reference computes it: the quotient, corrected where the signs differ and a remainder is left. -/
theorem floor_host (T : Fin 2048) :
    Scalar.select
      (IntOp.andi
        (IntOp.cmpi .ne (if BitVec.ofNat 32 T.val = 0 then 0 else if (BitVec.ofNat 32 T.val).msb = true then -1 else 1)
          (if (16#32 : BitVec 32) = 0 then 0 else if (16#32 : BitVec 32).msb = true then -1 else (1 : BitVec 32)))
        (IntOp.cmpi .ne (IntOp.remsi .host (BitVec.ofNat 32 T.val) 16#32) 0#32))
      (IntOp.subi (IntOp.divsi .host (BitVec.ofNat 32 T.val) 16#32) 1#32) (IntOp.divsi .host (BitVec.ofNat 32 T.val) 16#32)
    = BitVec.ofNat 32 (T.val / 16) := by
  revert T
  decide +kernel

/-- `T // 16` as the kernel computes it. -/
theorem floor_vector (T : Fin 2048) :
    Scalar.select
      (IntOp.andi
        (IntOp.cmpi .ne (IntOp.subi (BitVec.setWidth 32 (IntOp.cmpi .sgt (BitVec.ofNat 32 T.val) 0#32)) (BitVec.setWidth 32 (IntOp.cmpi .slt (BitVec.ofNat 32 T.val) 0#32)))
          (Scalar.subi (Scalar.extui (Scalar.cmpi .sgt 16#32 0#32)) (Scalar.extui (Scalar.cmpi .slt 16#32 0#32))))
        (IntOp.cmpi .ne (IntOp.remsi .vector (BitVec.ofNat 32 T.val) 16#32) 0#32))
      (IntOp.subi (IntOp.divsi .vector (BitVec.ofNat 32 T.val) 16#32) 1#32) (IntOp.divsi .vector (BitVec.ofNat 32 T.val) 16#32)
    = BitVec.ofNat 32 (T.val / 16) := by
  revert T
  decide +kernel

/-- A one-bit word widened and read as a number is 1 or 0. -/
theorem bit_number (c : BitVec 1) : (FloatOps.sitofp .f32 (BitVec.setWidth 32 c) : Ideal .f32) = if c = 1#1 then (1 : EReal) else 0 := by
  show (((BitVec.setWidth 32 c).toInt : ℝ) : EReal) = _
  rcases BitVec.eq_zero_or_eq_one c with rfl | rfl
  · rw [show (BitVec.setWidth 32 0#1).toInt = 0 by decide, if_neg (by decide), Int.cast_zero, EReal.coe_zero]
  · rw [show (BitVec.setWidth 32 1#1).toInt = 1 by decide, if_pos rfl, Int.cast_one, EReal.coe_one]

/-- Both conditions hold where their conjunction does. -/
theorem andi_one (c d : BitVec 1) : IntOp.andi c d = 1#1 ↔ c = 1#1 ∧ d = 1#1 := by
  revert c d
  decide

/-- A comparison for equality. -/
theorem cmpi_eq_one {w : ℕ} (a b : BitVec w) : IntOp.cmpi .eq a b = 1#1 ↔ a = b := by
  rw [WordCmp.cmpi_eq_eq, WordCmp.ofBool_decide_eq_one_iff]

/-- Slot `s` of a sequence of `l` pages is live. -/
def Live (l : BitVec 32) (s : Fin 128) : Prop := (BitVec.ofNat 32 s.val).toInt < l.toInt

instance (l : BitVec 32) : DecidablePred (Live l) := fun _ => inferInstanceAs (Decidable (_ < _))

/-- The comparison that marks the live slots. -/
theorem cmpi_live (l : BitVec 32) (s : Fin 128) : IntOp.cmpi .slt (BitVec.ofNat 32 s.val) l = 1#1 ↔ Live l s := by
  rw [WordCmp.cmpi_slt_eq, WordCmp.ofBool_decide_eq_one_iff, Live]

/-- The sum of the bits of a condition is the number of times it holds. -/
theorem sum_bits {ι : Type} [Fintype ι] (c : ι → BitVec 1) (p : ι → Prop) [DecidablePred p] (h : ∀ i, c i = 1#1 ↔ p i) :
    ∑ i, (FloatOps.sitofp .f32 (BitVec.setWidth 32 (c i)) : Ideal .f32) = (((Finset.univ.filter p).card : ℝ) : EReal) := by
  have e : ∀ i, (FloatOps.sitofp .f32 (BitVec.setWidth 32 (c i)) : Ideal .f32) = (((if p i then 1 else 0 : ℝ)) : EReal) := fun i => by
    rw [bit_number]
    by_cases hp : p i
    · rw [if_pos ((h i).2 hp), if_pos hp, EReal.coe_one]
    · rw [if_neg fun hc => hp ((h i).1 hc), if_neg hp, EReal.coe_zero]
  rw [Finset.sum_congr rfl fun i _ => e i, sum_coe, Finset.sum_boole]

/-- A sum against the bit that singles out the index `a` is the term there. -/
theorem sum_one_hot (f : Fin 128 → EReal) (a : Fin 128) :
    ∑ x : Fin 128, f x * (FloatOps.sitofp .f32 (BitVec.setWidth 32 (IntOp.cmpi .eq (BitVec.ofNat 32 a.val) (BitVec.ofNat 32 x.val))) : Ideal .f32) = f a := by
  have e : ∀ x : Fin 128, BitVec.ofNat 32 a.val = BitVec.ofNat 32 x.val ↔ a = x := fun x => by
    constructor
    · intro h
      have h' := congrArg BitVec.toNat h
      rw [BitVec.toNat_ofNat, BitVec.toNat_ofNat] at h'
      exact Fin.ext (by omega)
    · rintro rfl
      rfl
  rw [Finset.sum_eq_single a]
  · rw [bit_number, if_pos ((cmpi_eq_one _ _).2 rfl), mul_one]
  · intro x _ hx
    rw [bit_number, if_neg fun hc => hx ((e x).1 ((cmpi_eq_one _ _).1 hc)).symm, mul_zero]
  · exact fun h => absurd (Finset.mem_univ a) h

end Cert.KernelIdeal.Talk

end
-- ==== Proof.Regroup.lean ====
/- Sums over the tokens that a table of pages lists, taken page by page: a page counts as often as it is listed. -/
module

public import Mathlib.Algebra.BigOperators.Fin
public import Mathlib.Algebra.BigOperators.Group.Finset.Basic
public import Mathlib.Logic.Equiv.Fin.Basic
public import Mathlib.Algebra.BigOperators.GroupWithZero.Action

@[expose] public section

noncomputable section

namespace Cert.KernelIdeal.Talk

variable {M : Type} [AddCommMonoid M]

/-- The page a token lies on, and its place on the page. -/
def pageOf (T : Fin 2048) : Fin 128 := ⟨T.val / 16, by omega⟩
def spotOf (T : Fin 2048) : Fin 16 := ⟨T.val % 16, by omega⟩

/-- The number among all pages of page `p` of the half `x`. -/
def globalPage (x : Fin 2) (p : Fin 128) : Fin 256 := ⟨128 * x.val + p.val, by omega⟩

/-- How often the live slots of a table list the page `P`. -/
def listed (live : Fin 128 → Prop) [DecidablePred live] (pg : Fin 128 → Fin 256) (P : Fin 256) : ℕ := (Finset.univ.filter fun s => live s ∧ pg s = P).card

/-- A sum over tokens is a sum over pages and places. -/
theorem sum_tokens (f : Fin 128 → Fin 16 → M) : ∑ T : Fin 2048, f (pageOf T) (spotOf T) = ∑ s, ∑ t, f s t := by
  rw [← Fintype.sum_prod_type']
  exact Fintype.sum_equiv (finProdFinEquiv (m := 128) (n := 16)).symm _ _ fun T => rfl

/-- A sum over all pages is the sum over the two halves. -/
theorem sum_pages (f : Fin 256 → M) : ∑ P, f P = ∑ p, f (globalPage 0 p) + ∑ p, f (globalPage 1 p) := by
  rw [show (∑ P : Fin 256, f P) = ∑ P : Fin (128 + 128), f P from rfl, Fin.sum_univ_add]
  exact congrArg₂ (· + ·) (Finset.sum_congr rfl fun p _ => congrArg f (Fin.ext (show p.val = 128 * 0 + p.val by omega)))
    (Finset.sum_congr rfl fun p _ => congrArg f (Fin.ext (show 128 + p.val = 128 * 1 + p.val by omega)))

/-- Pages counted as often as they are listed: the sum over the live slots. -/
theorem sum_listed (live : Fin 128 → Prop) [DecidablePred live] (pg : Fin 128 → Fin 256) (f : Fin 256 → M) :
    ∑ P, listed live pg P • f P = ∑ s, if live s then f (pg s) else 0 := by
  have h : ∀ P, listed live pg P • f P = ∑ s, if live s ∧ pg s = P then f P else 0 := fun P => by
    rw [← Finset.sum_filter, Finset.sum_const]
    rfl
  rw [Finset.sum_congr rfl fun P _ => h P, Finset.sum_comm]
  refine Finset.sum_congr rfl fun s _ => ?_
  by_cases hs : live s
  · simp only [hs, true_and, if_true, Finset.sum_ite_eq, Finset.mem_univ]
  · simp only [hs, false_and, if_false, Finset.sum_const_zero]

/-- Both devices' tokens, each counted as often as its page is listed, are the tokens of the live slots. -/
theorem sum_halves (live : Fin 128 → Prop) [DecidablePred live] (pg : Fin 128 → Fin 256) (f : Fin 256 → Fin 16 → M) :
    (∑ T : Fin 2048, listed live pg (globalPage 0 (pageOf T)) • f (globalPage 0 (pageOf T)) (spotOf T))
        + ∑ T : Fin 2048, listed live pg (globalPage 1 (pageOf T)) • f (globalPage 1 (pageOf T)) (spotOf T)
      = ∑ k : Fin 2048, if live (pageOf k) then f (pg (pageOf k)) (spotOf k) else 0 := by
  rw [sum_tokens fun p t => listed live pg (globalPage 0 p) • f (globalPage 0 p) t, sum_tokens fun p t => listed live pg (globalPage 1 p) • f (globalPage 1 p) t,
    sum_tokens fun s t => if live s then f (pg s) t else 0, ← sum_pages fun P => ∑ t, listed live pg P • f P t]
  have h1 : ∀ P, ∑ t, listed live pg P • f P t = listed live pg P • ∑ t, f P t := fun P => (Finset.smul_sum ..).symm
  rw [Finset.sum_congr rfl fun P _ => h1 P, sum_listed live pg fun P => ∑ t, f P t]
  refine Finset.sum_congr rfl fun s _ => ?_
  by_cases hs : live s
  · simp only [hs, if_true]
  · simp only [hs, if_false, Finset.sum_const_zero]

end Cert.KernelIdeal.Talk

end
-- ==== Proof.Target.lean ====
/- What both programs compute: for a head of a sequence, the values of its live slots' pages, weighed by the exponentials of the scores and
   divided by the sum of the weights. -/
module

public import proofs.«01_k».proof.Proof.Words
public import proofs.«01_k».proof.Proof.Regroup

@[expose] public section

noncomputable section

namespace Cert.KernelIdeal.Talk

open Idealize.ShloMosaic

/-- The page that the reference's gather reads for an entry of the table: a negative entry counts from the end, and what lies outside is
    brought to the nearest page. -/
def pageNo (w : BitVec 32) : Fin 256 := ⟨min (Scalar.select (IntOp.cmpi .slt w 0#32) (IntOp.addi w 256#32) w).toInt.toNat 255, by omega⟩

/-- An entry that is a page number is that page. -/
theorem pageNo_val {w : BitVec 32} (h : w.toNat < 256) : (pageNo w).val = w.toNat := by
  have hs : Scalar.select (IntOp.cmpi .slt w 0#32) (IntOp.addi w 256#32) w = w := by
    have hn : ¬ IntOp.cmpi .slt w 0#32 = 1#1 := by
      rw [WordCmp.cmpi_slt_eq, WordCmp.ofBool_decide_eq_one_iff, WordCmp.toInt_eq_toNat_of_lt_half (by omega)]
      simp
    exact if_neg hn
  show min (Scalar.select (IntOp.cmpi .slt w 0#32) (IntOp.addi w 256#32) w).toInt.toNat 255 = w.toNat
  rw [hs, WordCmp.toInt_eq_toNat_of_lt_half (by omega)]
  omega

/-- The score of a query against a key. -/
def score (q : (⟨4, ![16, 1, 16, 64]⟩ : Shape).Idx → ℝ) (k : (⟨4, ![256, 16, 16, 64]⟩ : Shape).Idx → ℝ) (b h : Fin 16) (P : Fin 256) (t : Fin 16) : ℝ :=
  (∑ d : Fin 64, q (ix4 b 0 h d) * k (ix4 P t h d)) * (1 / 8)

/-- The weight of token `T` of the listed pages. -/
def weight (q : (⟨4, ![16, 1, 16, 64]⟩ : Shape).Idx → ℝ) (k : (⟨4, ![256, 16, 16, 64]⟩ : Shape).Idx → ℝ) (bt : (⟨2, ![16, 128]⟩ : Shape).Idx → BitVec 32)
    (ln : (⟨1, ![16]⟩ : Shape).Idx → BitVec 32) (b h : Fin 16) (T : Fin 2048) : ℝ :=
  if Live (ln (ix1 b)) (pageOf T) then Real.exp (score q k b h (pageNo (bt (ix2 b (pageOf T)))) (spotOf T)) else 0

/-- The result at one index. -/
def attend (q : (⟨4, ![16, 1, 16, 64]⟩ : Shape).Idx → ℝ) (k : (⟨4, ![256, 16, 16, 64]⟩ : Shape).Idx → ℝ) (v : (⟨4, ![256, 16, 16, 64]⟩ : Shape).Idx → EReal)
    (bt : (⟨2, ![16, 128]⟩ : Shape).Idx → BitVec 32) (ln : (⟨1, ![16]⟩ : Shape).Idx → BitVec 32) (b h : Fin 16) (d : Fin 64) : EReal :=
  (∑ T : Fin 2048, (weight q k bt ln b h T : EReal) * v (ix4 (pageNo (bt (ix2 b (pageOf T)))) (spotOf T) h d))
    * (((∑ T : Fin 2048, weight q k bt ln b h T)⁻¹ : ℝ) : EReal)

/-- The weights of a sequence with a live slot add up to more than nothing. -/
theorem weight_sum_pos (q : (⟨4, ![16, 1, 16, 64]⟩ : Shape).Idx → ℝ) (k : (⟨4, ![256, 16, 16, 64]⟩ : Shape).Idx → ℝ)
    (bt : (⟨2, ![16, 128]⟩ : Shape).Idx → BitVec 32) (ln : (⟨1, ![16]⟩ : Shape).Idx → BitVec 32) (b h : Fin 16) (hl : Live (ln (ix1 b)) 0) :
    0 < ∑ T : Fin 2048, weight q k bt ln b h T := by
  refine Finset.sum_pos' (fun T _ => ?_) ⟨0, Finset.mem_univ _, ?_⟩
  · unfold weight
    split
    · exact (Real.exp_pos _).le
    · exact le_refl 0
  · unfold weight
    rw [if_pos (show Live (ln (ix1 b)) (pageOf 0) from hl)]
    exact Real.exp_pos _

end Cert.KernelIdeal.Talk

end
-- ==== Proof.Pre.lean ====
/- What the precondition says of the arrays of a device. -/
module

public import proofs.«01_k».proof.Pre_live_and_finite_KernelIdeal
public import proofs.«01_k».proof.Pre_live_and_finite_ReferenceIdeal
public import proofs.«01_k».proof.Proof.Target
public import Idealize.ShloMosaic.Lib.Pointwise
public import Idealize.ShloMosaic.Lib.ReduceAll
public import Idealize.ShloMosaic.Lib.IdealHost

@[expose] public section

noncomputable section

namespace Cert.Pre_live_and_finite_KernelIdeal

open Idealize.ShloMosaic
open Cert.KernelIdeal.Talk (Live andi_one cmpi_live)

/-- The shape relations of the precondition's operations. -/
instance facts : Facts where
  bcast_S128_S1x128_1 := by decide
  bcast_S16_S16x1_0 := by decide
  bcast_S1x128_S16x128_0_1 := by decide
  bcast_S16x1_S16x128_0_1 := by decide
  bcast_S_S16 := by decide
  reducesTo_S16_S_d0 := by decide
  h_S_ := by decide
  bcast_S_S16x128 := by decide
  reducesTo_S16x128_S_d0_1 := by decide
  bcast_S_S16x1x16x64 := by decide
  reducesTo_S16x1x16x64_S_d0_1_2_3 := by decide
  bcast_S_S128x16x16x64 := by decide
  reducesTo_S128x16x16x64_S_d0_1_2_3 := by decide

/-- There is one index into an array of no axes. -/
instance : Subsingleton S_.Idx := ⟨fun i j => funext fun a => a.elim0⟩

/-- The constant that the absolute values are compared with. -/
theorem pos_inf : Ideal.ofBits .bf16 0x7F80#16 = (⊤ : EReal) := by
  simp [Ideal.ofBits, Ideal.ieee]

/-- An extended real whose absolute value lies below +∞ is real. -/
theorem finite_of (x : EReal) (h : Ideal.cmp .olt (max x (-x)) ⊤ = 1#1) : ∃ r : ℝ, x = (r : EReal) := by
  have e : max x (-x) < ⊤ := (WordCmp.ofBool_decide_eq_one_iff _).1 h
  refine ⟨x.toReal, (EReal.coe_toReal (fun hx => ?_) fun hx => ?_).symm⟩
  · rw [hx] at e
    exact absurd (lt_of_le_of_lt (le_max_left _ _) e) (lt_irrefl _)
  · rw [hx, EReal.neg_bot] at e
    exact absurd (lt_of_le_of_lt (le_max_right _ _) e) (lt_irrefl _)

/-- "Not this, or that", where this holds. -/
theorem clear_or (d : BitVec 1) : IntOp.ori (~~~1#1) d = d := by
  revert d
  decide

/-- A word that reads as a number from 0 to 255 is that number. -/
theorem word_lt {w : BitVec 32} (h : (0#32 : BitVec 32).toInt ≤ w.toInt) (h' : w.toInt < (256#32 : BitVec 32).toInt) : w.toNat < 256 := by
  have e := BitVec.toInt_eq_toNat_cond w
  have h0 : (0#32 : BitVec 32).toInt = 0 := by decide
  have h1 : (256#32 : BitVec 32).toInt = 256 := by decide
  have := w.isLt
  split at e <;> omega

set_option maxRecDepth 16384 in
/-- What the precondition says of a device's arrays: the queries and keys are real, every sequence has a live slot, and a live slot's entry
    of the table is a page number. -/
theorem reads (Q : FVec Ideal S16x1x16x64 .bf16) (K V : FVec Ideal S128x16x16x64 .bf16) (bt : IVec S16x128 32) (ln : IVec S16 32)
    (h : fn (F := Ideal) Q K V bt ln = fun _ => 1#1) :
    (∀ b : Fin 16, Live (ln (ix1 b)) 0) ∧ (∀ (b : Fin 16) (s : Fin 128), Live (ln (ix1 b)) s → (bt (ix2 b s)).toNat < 256)
      ∧ (∀ i, ∃ r : ℝ, Q i = (r : EReal)) ∧ ∀ i, ∃ r : ℝ, K i = (r : EReal) := by
  have h0 := congrFun h ix0
  unfold fn fn_part1 at h0
  obtain ⟨h1, hK⟩ := (andi_one _ _).1 h0
  obtain ⟨h2, hQ⟩ := (andi_one _ _).1 h1
  obtain ⟨hl, hp⟩ := (andi_one _ _).1 h2
  refine ⟨fun b => ?_, fun b s hs => ?_, fun i => ?_, fun i => ?_⟩
  · have e := Host.reduce_andi_all _ _ _ _ _ hl (ix1 b)
    replace e : IntOp.cmpi .sge (ln (ix1 b)) 1#32 = 1#1 := e
    rw [WordCmp.cmpi_sge_eq, WordCmp.ofBool_decide_eq_one_iff] at e
    exact lt_of_lt_of_le (by decide) e
  · have e := Host.reduce_andi_all _ _ _ _ _ hp (ix2 b s)
    pointwise at e
    replace e : IntOp.ori (~~~(IntOp.cmpi .slt (BitVec.ofNat 32 s.val) (ln (ix1 b))))
      (IntOp.andi (IntOp.cmpi .sge (bt (ix2 b s)) 0#32) (IntOp.cmpi .slt (bt (ix2 b s)) 256#32)) = 1#1 := e
    rw [(cmpi_live (ln (ix1 b)) s).2 hs, clear_or, andi_one, WordCmp.cmpi_sge_eq, WordCmp.cmpi_slt_eq, WordCmp.ofBool_decide_eq_one_iff,
      WordCmp.ofBool_decide_eq_one_iff] at e
    exact word_lt e.1 e.2
  · have e := Host.reduce_andi_all _ _ _ _ _ hQ i
    refine finite_of (Q i) ?_
    rw [← pos_inf]
    exact e
  · have e := Host.reduce_andi_all _ _ _ _ _ hK i
    refine finite_of (K i) ?_
    rw [← pos_inf]
    exact e

end Cert.Pre_live_and_finite_KernelIdeal

namespace Cert.Pre_live_and_finite_ReferenceIdeal

open Idealize.ShloMosaic

/-- The shape relations of the precondition's operations, at the reference's shapes. -/
instance facts : Facts where
  bcast_S128_S1x128_1 := by decide
  bcast_S16_S16x1_0 := by decide
  bcast_S1x128_S16x128_0_1 := by decide
  bcast_S16x1_S16x128_0_1 := by decide
  bcast_S_S16 := by decide
  reducesTo_S16_S_d0 := by decide
  h_S_ := by decide
  bcast_S_S16x128 := by decide
  reducesTo_S16x128_S_d0_1 := by decide
  bcast_S_S16x1x16x64 := by decide
  reducesTo_S16x1x16x64_S_d0_1_2_3 := by decide
  bcast_S_S256x16x16x64 := by decide
  reducesTo_S256x16x16x64_S_d0_1_2_3 := by decide

end Cert.Pre_live_and_finite_ReferenceIdeal

end
-- ==== Proof.Weights.lean ====
/- The logarithm of how often a page is listed, as the kernel spreads it over the tokens, and the scores it weighs. -/
module

public import proofs.«01_k».proof.Proof.Words
public import proofs.«01_k».proof.Proof.Regroup
public import proofs.«01_k».proof.Proof.Compute

@[expose] public section

set_option maxRecDepth 16384

noncomputable section

namespace Cert.KernelIdeal.Talk

open Idealize.ShloMosaic
open Cert.KernelIdeal Cert.KernelIdeal.Gen

/-- How often page `p` of device `c`'s half is listed by the live slots of the table's row `b`. -/
def timesListed (c : Dev nD) (x3 : IVec S16x128 32) (x4 : IVec S16x1 32) (b : Fin 16) (p : Fin 128) : ℕ :=
  (Finset.univ.filter fun s : Fin 128 => x3 (ix2 b s) = BitVec.ofNat 32 (128 * (c.val / 2) + p.val) ∧ Live (x4 (ix2 b 0)) s).card

/-- The first page of a device's half, as the kernel computes it. -/
theorem page_word (c : Dev nD) (p : Fin 128) :
    IntOp.addi (BitVec.ofNat 32 p.val) (Scalar.muli (Scalar.remsi (Scalar.divsi c.word 2#32) 2#32) 128#32) = BitVec.ofNat 32 (128 * (c.val / 2) + p.val) := by
  have h : ∀ c : Dev nD, Scalar.muli (Scalar.remsi (Scalar.divsi c.word 2#32) 2#32) 128#32 = BitVec.ofNat 32 (128 * (c.val / 2)) := by decide
  rw [h c, Nat.add_comm, BitVec.ofNat_add]
  rfl

/-- The logarithm of a multiplicity, −∞ for a page that is not listed. -/
theorem logw_at (c : Dev nD) (x3 : IVec S16x128 32) (x4 : IVec S16x1 32) (b : Fin 16) (p : Fin 128) :
    k0_pay1 (F := Ideal) c x3 x4 (ix2 b p)
      = if 0 < timesListed c x3 x4 b p then ((Real.log (timesListed c x3 x4 b p) : ℝ) : EReal) else ⊥ := by
  pointwise [k0_pay1]
  simp only [page_word]
  rw [sum_bits _ (fun s : Fin 128 => x3 (ix2 b s) = BitVec.ofNat 32 (128 * (c.val / 2) + p.val) ∧ Live (x4 (ix2 b 0)) s) fun s => by
    rw [andi_one, cmpi_eq_one, cmpi_live]]
  rw [show (Finset.univ.filter fun s : Fin 128 => x3 (ix2 b s) = BitVec.ofNat 32 (128 * (c.val / 2) + p.val) ∧ Live (x4 (ix2 b 0)) s).card = timesListed c x3 x4 b p from rfl]
  have hpos : (0 : EReal) < ((timesListed c x3 x4 b p : ℝ) : EReal) ↔ 0 < timesListed c x3 x4 b p := by
    rw [← EReal.coe_zero, EReal.coe_lt_coe_iff, Nat.cast_pos]
  by_cases hw : 0 < timesListed c x3 x4 b p
  · rw [if_pos (hpos.2 hw), if_pos hw, Ideal.log_coe, if_neg (not_le.2 (Nat.cast_pos.2 hw))]
  · rw [if_neg fun h => hw (hpos.1 h), if_neg hw]
    exact IdealRules.named_const.ideal_named_scalar _ _ _ _ rfl

/-- A number per page, spread over the tokens of both heads of a pair. -/
theorem spread_at (w : FVec Ideal S16x128 .bf16) (r : Fin 32) (T : Fin 2048) :
    k0_pay2 (F := Ideal) w (iota .tc S128x2048 32 [1] iota_S128x2048_d1_w32) (ix2 r T) = w (ix2 ⟨r.val % 16, by omega⟩ (pageOf T)) := by
  pointwise [k0_pay2]
  simp only [floor_vector, show T.val / 16 = (pageOf T).val from rfl, sum_one_hot fun x => w (ix2 _ x)]
  by_cases hr : r.val < 16
  · rw [dif_pos hr]
    congr 2
    exact Fin.ext (show r.val = r.val % 16 by omega)
  · rw [dif_neg hr]
    congr 2
    exact Fin.ext (show r.val - 16 = r.val % 16 by omega)

end Cert.KernelIdeal.Talk

end
-- ==== Proof.Rows.lean ====
/- What a device computes before the exchange, at one row: maximum, sum and output of one head of one sequence. -/
module

public import proofs.«01_k».proof.Proof.Weights
public import proofs.«01_k».proof.Proof.Parts

@[expose] public section

set_option maxRecDepth 16384

noncomputable section

namespace Cert.KernelIdeal.Talk

open Idealize.ShloMosaic
open Cert.KernelIdeal Cert.KernelIdeal.Gen

/-- The row of a pair's matrices that holds sequence `b` of the pair's head `e`. -/
def row (e : Fin 2) (b : Fin 16) : Fin 32 := ⟨16 * e.val + b.val, by omega⟩

section

variable (lw : FVec Ideal S32x2048 .f32) (x0 : FVec Ideal S16x16x64 .bf16) (x1 x2 : FVec Ideal S16x2048x64 .bf16)

/-- The score of token `T` for head `j` of sequence `b`. -/
def scoreAt (j b : Fin 16) (T : Fin 2048) : EReal := ∑ d : Fin 64, x0 (ix3 j b d) * x1 (ix3 j T d) + lw (ix2 (row (placeOf j) b) T)
/-- The largest of them. -/
def maxAt (j b : Fin 16) : EReal := Finset.univ.fold max ⊥ (scoreAt lw x0 x1 j b)

theorem qSlab_at (j b : Fin 16) (d : Fin 64) : qSlab x0 j (ix3 0 b d) = x0 (ix3 j b d) := by
  refine congrArg x0 (funext fun a => Fin.ext ?_)
  match a with
  | ⟨0, _⟩ => rfl
  | ⟨1, _⟩ => exact show 0 + 1 * b.val = b.val by omega
  | ⟨2, _⟩ => exact show 0 + 1 * d.val = d.val by omega
theorem kvSlab_at (j : Fin 16) (T : Fin 2048) (d : Fin 64) : kvSlab x1 j (ix3 0 T d) = x1 (ix3 j T d) := by
  refine congrArg x1 (funext fun a => Fin.ext ?_)
  match a with
  | ⟨0, _⟩ => rfl
  | ⟨1, _⟩ => exact show 0 + 1 * T.val = T.val by omega
  | ⟨2, _⟩ => exact show 0 + 1 * d.val = d.val by omega

/-- The scores of a pair of heads: each row meets the keys of its own head alone. -/
theorem scores_at (g : Fin 8) (e : Fin 2) (b : Fin 16) (T : Fin 2048) :
    k0_pay17 lw k0_pay3 (qSlab x0 (head g 0)) (qSlab x0 (head g 1)) (kvSlab x1 (head g 0)) (kvSlab x1 (head g 1)) (ix2 (row e b) T)
      = scoreAt lw x0 x1 (head g e) b T := by
  unfold scoreAt
  rw [placeOf_head]
  pointwise [k0_pay17, k0_pay3]
  simp only [kvSlab_at]
  match e with
  | ⟨0, _⟩ =>
    have hr : (row ⟨0, by decide⟩ b).val < 16 := (show 16 * 0 + b.val < 16 by omega)
    simp only [dif_pos hr, zero_mul, Finset.sum_const_zero, add_zero]
    refine congrArg (· + _) (Finset.sum_congr rfl fun d _ => ?_)
    rw [show (⟨(row ⟨0, by decide⟩ b).val, hr⟩ : Fin 16) = b from Fin.ext (show 16 * 0 + b.val = b.val by omega), qSlab_at]
    rfl
  | ⟨1, _⟩ =>
    have hr : ¬ (row ⟨1, by decide⟩ b).val < 16 := (show ¬ 16 * 1 + b.val < 16 by omega)
    simp only [dif_neg hr, zero_mul, Finset.sum_const_zero, zero_add]
    refine congrArg (· + _) (Finset.sum_congr rfl fun d _ => ?_)
    rw [show (⟨(row ⟨1, by decide⟩ b).val - 16, by omega⟩ : Fin 16) = b from Fin.ext (show 16 * 1 + b.val - 16 = b.val by omega), qSlab_at]
    rfl

/-- The pattern of −∞. -/
theorem neg_inf : Ideal.ofBits .f32 0xFF800000#32 = (⊥ : EReal) := by
  simp [Ideal.ofBits, Ideal.ieee]

theorem grpM_at (g : Fin 8) (e : Fin 2) (b : Fin 16) : grpM lw x0 x1 g (ix2 (row e b) 0) = maxAt lw x0 x1 (head g e) b := by
  unfold grpM maxAt
  pointwise [k0_pay18]
  rw [neg_inf]
  exact congrArg (fun f => Finset.fold max ⊥ f Finset.univ) (funext fun T => scores_at lw x0 x1 g e b T)

theorem grpL_at (g : Fin 8) (e : Fin 2) (b : Fin 16) :
    grpL lw x0 x1 g (ix2 (row e b) 0) = ∑ T : Fin 2048, Ideal.exp (scoreAt lw x0 x1 (head g e) b T - maxAt lw x0 x1 (head g e) b) := by
  unfold grpL
  pointwise [k0_pay20, k0_pay19]
  refine Finset.sum_congr rfl fun T _ => ?_
  rw [scores_at, ← grpM_at]
  rfl

theorem grpO_at (g : Fin 8) (e : Fin 2) (b : Fin 16) (d : Fin 64) :
    grpO lw x0 x1 x2 g (ix2 (row e b) ⟨64 * e.val + d.val, by omega⟩)
      = ∑ T : Fin 2048, Ideal.exp (scoreAt lw x0 x1 (head g e) b T - maxAt lw x0 x1 (head g e) b) * x2 (ix3 (head g e) T d) := by
  unfold grpO
  pointwise [k0_pay21, k0_pay19]
  refine Finset.sum_congr rfl fun T _ => ?_
  rw [scores_at, ← grpM_at]
  refine congrArg₂ (· * ·) rfl ?_
  match e with
  | ⟨0, _⟩ =>
    rw [dif_pos (show 64 * 0 + d.val < 64 by omega)]
    exact (kvSlab_at _ _ _ _).trans (congrArg (fun l => x2 (ix3 (head g 0) T l)) (Fin.ext (show 64 * 0 + d.val = d.val by omega)))
  | ⟨1, _⟩ =>
    rw [dif_neg (show ¬ 64 * 1 + d.val < 64 by omega)]
    exact (kvSlab_at _ _ _ _).trans (congrArg (fun l => x2 (ix3 (head g 1) T l)) (Fin.ext (show 64 * 1 + d.val - 64 = d.val by omega)))

/-- The output block of a head, at an index. -/
theorem sendO_at (j b : Fin 16) (d : Fin 64) :
    sendO lw x0 x1 x2 (ix3 j b d) = ∑ T : Fin 2048, Ideal.exp (scoreAt lw x0 x1 j b T - maxAt lw x0 x1 j b) * x2 (ix3 j T d) := by
  have h := grpO_at lw x0 x1 x2 (pairOf j) (placeOf j) b d
  rw [head_pairOf] at h
  rw [← h]
  show blkO lw x0 x1 x2 (pairOf j) (placeOf j) (ix3 0 b d) = _
  obtain he | he : placeOf j = 0 ∨ placeOf j = 1 := by omega
  · rw [he, blkO, if_pos rfl]
    pointwise [k0_pay23]
    congr 2 <;> exact Fin.ext (by simp [row])
  · rw [he, blkO, if_neg (by decide)]
    pointwise [k0_pay24]
    congr 2

/-- The maximum and the sum of a head, at an index. -/
theorem sendS_at_max (j b : Fin 16) : sendS lw x0 x1 (ix3 j b 0) = maxAt lw x0 x1 j b := by
  have h := grpM_at lw x0 x1 (pairOf j) (placeOf j) b
  rw [head_pairOf] at h
  rw [← h]
  show blkS lw x0 x1 (pairOf j) (placeOf j) (ix3 0 b 0) = _
  obtain he | he : placeOf j = 0 ∨ placeOf j = 1 := by omega
  · rw [he, blkS, if_pos rfl]
    pointwise [k0_pay25]
    exact congrArg (fun r => grpM lw x0 x1 (pairOf j) (ix2 r 0)) (Fin.ext (show b.val = 16 * 0 + b.val by omega))
  · rw [he, blkS, if_neg (by decide)]
    pointwise [k0_pay26]
    exact congrArg (fun r => grpM lw x0 x1 (pairOf j) (ix2 r 0)) (Fin.ext (show 16 + b.val = 16 * 1 + b.val by omega))
theorem sendS_at_sum (j b : Fin 16) :
    sendS lw x0 x1 (ix3 j b 1) = ∑ T : Fin 2048, Ideal.exp (scoreAt lw x0 x1 j b T - maxAt lw x0 x1 j b) := by
  have h := grpL_at lw x0 x1 (pairOf j) (placeOf j) b
  rw [head_pairOf] at h
  rw [← h]
  show blkS lw x0 x1 (pairOf j) (placeOf j) (ix3 0 b 1) = _
  obtain he | he : placeOf j = 0 ∨ placeOf j = 1 := by omega
  · rw [he, blkS, if_pos rfl]
    pointwise [k0_pay25]
    exact congrArg (fun r => grpL lw x0 x1 (pairOf j) (ix2 r 0)) (Fin.ext (show b.val = 16 * 0 + b.val by omega))
  · rw [he, blkS, if_neg (by decide)]
    pointwise [k0_pay26]
    exact congrArg (fun r => grpL lw x0 x1 (pairOf j) (ix2 r 0)) (Fin.ext (show 16 + b.val = 16 * 1 + b.val by omega))

end

/-- The two devices' rows put together, at an index. -/
theorem merged_at (o : FVec Ideal S16x16x64 .f32) (s : FVec Ideal S16x16x2 .f32) (o' : FVec Ideal S16x16x64 .f32) (s' : FVec Ideal S16x16x2 .f32) (j b : Fin 16) (d : Fin 64) :
    merged o s o' s' (ix3 j b d)
      = Ideal.div (o (ix3 j b d) * Ideal.exp (s (ix3 j b 0) - max (s (ix3 j b 0)) (s' (ix3 j b 0))) + o' (ix3 j b d) * Ideal.exp (s' (ix3 j b 0) - max (s (ix3 j b 0)) (s' (ix3 j b 0))))
          (s (ix3 j b 1) * Ideal.exp (s (ix3 j b 0) - max (s (ix3 j b 0)) (s' (ix3 j b 0))) + s' (ix3 j b 1) * Ideal.exp (s' (ix3 j b 0) - max (s (ix3 j b 0)) (s' (ix3 j b 0)))) := by
  have w0 : ∀ s : FVec Ideal S16x16x2 .f32, VecWindow.window s ![0, 0, 0] S16x16x1.size inb_S16x16x2_S16x16x1_0_0_0 (ix3 j b 0) = s (ix3 j b 0) := fun s => by
    refine congrArg s (funext fun a => Fin.ext ?_)
    match a with
    | ⟨0, _⟩ => exact show 0 + 1 * j.val = j.val by omega
    | ⟨1, _⟩ => exact show 0 + 1 * b.val = b.val by omega
    | ⟨2, _⟩ => rfl
  have w1 : ∀ s : FVec Ideal S16x16x2 .f32, VecWindow.window s ![0, 0, 1] S16x16x1.size inb_S16x16x2_S16x16x1_0_0_1 (ix3 j b 0) = s (ix3 j b 1) := fun s => by
    refine congrArg s (funext fun a => Fin.ext ?_)
    match a with
    | ⟨0, _⟩ => exact show 0 + 1 * j.val = j.val by omega
    | ⟨1, _⟩ => exact show 0 + 1 * b.val = b.val by omega
    | ⟨2, _⟩ => rfl
  unfold merged
  pointwise [k0_pay89]
  rw [w0 s, w0 s', w1 s, w1 s']

end Cert.KernelIdeal.Talk

end
-- ==== Proof.HostReads.lean ====
/- The host code round the kernel's call, read at an index. -/
module

public import proofs.«01_k».proof.Proof.Frames
public import proofs.«01_k».proof.Proof.Weights
public import Idealize.ShloMosaic.Lib.StableHlo.ReadAt

@[expose] public section

noncomputable section

namespace Cert.KernelIdeal.Talk

open Idealize.ShloMosaic
open Cert.KernelIdeal Cert.KernelIdeal.Gen

variable (m : (ℓ : Loc nD τ sig) → Buf (Elt Ideal) ℓ) (c : Dev nD)

/-- The constant that the host code scales the queries by. -/
theorem eighth : Ideal.ofBits .bf16 0x3E00#16 = ((1 / 8 : ℝ) : EReal) := by
  simp [Ideal.ofBits, Ideal.ieee, -EReal.coe_mul]; norm_num

/-- The queries as the call reads them, where they are finite. -/
theorem xQ_at (q : S16x1x16x64.Idx → ℝ) (hq : m ((c.tc : Thread nD τ).loc main_arg0) = fun i => (q i : EReal)) (h b : Fin 16) (d : Fin 64) :
    xQ m c (ix3 h b d) = (q (ix4 b 0 h d) : EReal) * ((1 / 8 : ℝ) : EReal) := by
  rw [← eighth, ← congrFun hq (ix4 b 0 h d)]
  unfold xQ V
  after_reads_at

/-- The keys as the call reads them. -/
theorem xK_at (h : Fin 16) (T : Fin 2048) (d : Fin 64) :
    xK m c (ix3 h T d) = (m ((c.tc : Thread nD τ).loc main_arg1) : FVec Ideal S128x16x16x64 .bf16) (ix4 (pageOf T) (spotOf T) h d) := by
  unfold xK V
  after_reads_at
  rfl

/-- The values as the call reads them. -/
theorem xV_at (h : Fin 16) (T : Fin 2048) (d : Fin 64) :
    xV m c (ix3 h T d) = (m ((c.tc : Thread nD τ).loc main_arg2) : FVec Ideal S128x16x16x64 .bf16) (ix4 (pageOf T) (spotOf T) h d) := by
  unfold xV V
  after_reads_at
  rfl

/-- The table of pages as the call reads it. -/
theorem xB_eq : xB m c = m ((c.tc : Thread nD τ).loc main_arg3) := by
  exact V_main_arg3 m c

/-- The lengths as the call reads them. -/
theorem xL_at (b : Fin 16) : xL m c (ix2 b 0) = (m ((c.tc : Thread nD τ).loc main_arg4) : IVec S16 32) (ix1 b) := by
  unfold xL V
  after_reads_at

/-- The result of the whole program at an index. -/
theorem Vend_at (b h : Fin 16) (d : Fin 64) :
    (Vend m c (Proc.devRef .tc main_v12) : FVec Ideal S16x1x16x64 .f32) (ix4 b 0 h d) = outOf m c (ix3 h b d) := by
  rw [← Vret_out m c]
  unfold Vend
  after_reads_at

end Cert.KernelIdeal.Talk

end
-- ==== Proof.Value.lean ====
/- What the kernel returns, for arrays that the precondition allows. -/
module

public import proofs.«01_k».proof.Proof.Maths
public import proofs.«01_k».proof.Proof.Target
public import proofs.«01_k».proof.Proof.Rows
public import proofs.«01_k».proof.Proof.HostReads

@[expose] public section

noncomputable section

namespace Cert.KernelIdeal.Talk

open Idealize.ShloMosaic
open Cert.KernelIdeal Cert.KernelIdeal.Gen

/-- The half of the pages that device `c` holds. -/
def halfOf (c : Dev nD) : Fin 2 := ⟨c.val / 2, by have := c.isLt; unfold nD at this; omega⟩

/-- The devices hold finite queries, their halves of finite keys, their halves of the values, a table whose live entries are page numbers, and
    lengths of at least one. -/
structure Holds (m : (ℓ : Loc nD τ sig) → Buf (Elt Ideal) ℓ) (q : S16x1x16x64.Idx → ℝ) (k : (⟨4, ![256, 16, 16, 64]⟩ : Shape).Idx → ℝ)
    (v : (⟨4, ![256, 16, 16, 64]⟩ : Shape).Idx → EReal) (bt : IVec S16x128 32) (ln : IVec S16 32) : Prop where
  queries (c : Dev nD) : m ((c.tc : Thread nD τ).loc main_arg0) = fun i => (q i : EReal)
  keys (c : Dev nD) (p : Fin 128) (t h : Fin 16) (d : Fin 64) :
    (m ((c.tc : Thread nD τ).loc main_arg1) : FVec Ideal S128x16x16x64 .bf16) (ix4 p t h d) = (k (ix4 (globalPage (halfOf c) p) t h d) : EReal)
  values (c : Dev nD) (p : Fin 128) (t h : Fin 16) (d : Fin 64) :
    (m ((c.tc : Thread nD τ).loc main_arg2) : FVec Ideal S128x16x16x64 .bf16) (ix4 p t h d) = v (ix4 (globalPage (halfOf c) p) t h d)
  table (c : Dev nD) : m ((c.tc : Thread nD τ).loc main_arg3) = bt
  lengths (c : Dev nD) : m ((c.tc : Thread nD τ).loc main_arg4) = ln
  some_live (b : Fin 16) : Live (ln (ix1 b)) 0
  in_range (b : Fin 16) (s : Fin 128) : Live (ln (ix1 b)) s → (bt (ix2 b s)).toNat < 256

/-- How often sequence `b` lists page `P`. -/
def times (bt : IVec S16x128 32) (ln : IVec S16 32) (b : Fin 16) (P : Fin 256) : ℕ := listed (Live (ln (ix1 b))) (fun s => pageNo (bt (ix2 b s))) P

/-- The weight of token `T` of the half `x`: that of its page, as often as it is listed. -/
def sideWeight (q : S16x1x16x64.Idx → ℝ) (k : (⟨4, ![256, 16, 16, 64]⟩ : Shape).Idx → ℝ) (bt : IVec S16x128 32) (ln : IVec S16 32) (x : Fin 2)
    (b h : Fin 16) (T : Fin 2048) : ℝ :=
  times bt ln b (globalPage x (pageOf T)) * Real.exp (score q k b h (globalPage x (pageOf T)) (spotOf T))

section

variable (q : S16x1x16x64.Idx → ℝ) (k : (⟨4, ![256, 16, 16, 64]⟩ : Shape).Idx → ℝ) (v : (⟨4, ![256, 16, 16, 64]⟩ : Shape).Idx → EReal)
  (bt : IVec S16x128 32) (ln : IVec S16 32)

/-- The weights of the two halves add up to those of the listed pages. -/
theorem halves_weight (b h : Fin 16) : ∑ T, sideWeight q k bt ln 0 b h T + ∑ T, sideWeight q k bt ln 1 b h T = ∑ T, weight q k bt ln b h T := by
  have e := sum_halves (Live (ln (ix1 b))) (fun s => pageNo (bt (ix2 b s))) fun P t => Real.exp (score q k b h P t)
  simp only [nsmul_eq_mul] at e
  exact e

/-- So do the values, weighed. -/
theorem halves_value (b h : Fin 16) (d : Fin 64) :
    ∑ T, (sideWeight q k bt ln 0 b h T : EReal) * v (ix4 (globalPage 0 (pageOf T)) (spotOf T) h d)
        + ∑ T, (sideWeight q k bt ln 1 b h T : EReal) * v (ix4 (globalPage 1 (pageOf T)) (spotOf T) h d)
      = ∑ T, (weight q k bt ln b h T : EReal) * v (ix4 (pageNo (bt (ix2 b (pageOf T)))) (spotOf T) h d) := by
  have e := sum_halves (Live (ln (ix1 b))) (fun s => pageNo (bt (ix2 b s))) fun P t => (Real.exp (score q k b h P t) : EReal) * v (ix4 P t h d)
  refine Eq.trans (congrArg₂ (· + ·) (Finset.sum_congr rfl fun T _ => ?_) (Finset.sum_congr rfl fun T _ => ?_)) (e.trans (Finset.sum_congr rfl fun T _ => ?_))
  · rw [EReal.nsmul_eq_mul, ← mul_assoc]
    rfl
  · rw [EReal.nsmul_eq_mul, ← mul_assoc]
    rfl
  · unfold weight
    split
    · rfl
    · rw [EReal.coe_zero, zero_mul]

end

section

variable {m : (ℓ : Loc nD τ sig) → Buf (Elt Ideal) ℓ} {q : S16x1x16x64.Idx → ℝ} {k : (⟨4, ![256, 16, 16, 64]⟩ : Shape).Idx → ℝ}
  {v : (⟨4, ![256, 16, 16, 64]⟩ : Shape).Idx → EReal} {bt : IVec S16x128 32} {ln : IVec S16 32}

/-- The kernel counts a page as often as its sequence lists it. -/
theorem Holds.times_eq (H : Holds m q k v bt ln) (c : Dev nD) (b : Fin 16) (p : Fin 128) :
    timesListed c (xB m c) (xL m c) b p = times bt ln b (globalPage (halfOf c) p) := by
  unfold timesListed times listed
  refine congrArg Finset.card (Finset.filter_congr fun s _ => ?_)
  rw [xL_at, H.lengths c, xB_eq, H.table c, and_comm]
  refine and_congr_right fun hs => ?_
  have hr := H.in_range b s hs
  have hc : c.val < 4 := c.isLt
  constructor
  · intro e
    refine Fin.ext ?_
    rw [pageNo_val hr, e, BitVec.toNat_ofNat, Nat.mod_eq_of_lt (by omega)]
    rfl
  · intro e
    refine BitVec.eq_of_toNat_eq ?_
    rw [← pageNo_val hr, show pageNo (bt (ix2 b s)) = globalPage (halfOf c) p from e, BitVec.toNat_ofNat, Nat.mod_eq_of_lt (by omega)]
    rfl

/-- The kernel's score of a token carries the token's weight. -/
theorem Holds.weighs (H : Holds m q k v bt ln) (c : Dev nD) (b h : Fin 16) (T : Fin 2048) :
    Weighs (scoreAt (lwOf c (xB m c) (xL m c)) (xQ m c) (xK m c) h b T) (sideWeight q k bt ln (halfOf c) b h T) := by
  have hs : ∑ d : Fin 64, xQ m c (ix3 h b d) * xK m c (ix3 h T d) = ((score q k b h (globalPage (halfOf c) (pageOf T)) (spotOf T) : ℝ) : EReal) := by
    unfold score
    rw [Finset.sum_mul, ← sum_coe]
    refine Finset.sum_congr rfl fun d _ => ?_
    rw [xQ_at m c q (H.queries c), xK_at, H.keys c, ← EReal.coe_mul, ← EReal.coe_mul]
    exact congrArg _ (by ring)
  have hw : lwOf (F := Ideal) c (xB m c) (xL m c) (ix2 (row (placeOf h) b) T)
      = if 0 < times bt ln b (globalPage (halfOf c) (pageOf T)) then ((Real.log (times bt ln b (globalPage (halfOf c) (pageOf T))) : ℝ) : EReal) else ⊥ := by
    unfold lwOf
    rw [spread_at, show (⟨(row (placeOf h) b).val % 16, by omega⟩ : Fin 16) = b from Fin.ext (show (16 * (placeOf h).val + b.val) % 16 = b.val by omega),
      logw_at, H.times_eq]
  unfold scoreAt sideWeight
  rw [hs, hw]
  by_cases hn : 0 < times bt ln b (globalPage (halfOf c) (pageOf T))
  · refine Or.inr ⟨_, by rw [if_pos hn, ← EReal.coe_add], ?_⟩
    rw [Real.exp_add, Real.exp_log (Nat.cast_pos.2 hn), mul_comm]
  · refine Or.inl ⟨by rw [if_neg hn, EReal.add_bot], ?_⟩
    rw [Nat.eq_zero_of_not_pos hn, Nat.cast_zero, zero_mul]

/-- What a device sends for a head of a sequence. -/
theorem Holds.sends (H : Holds m q k v bt ln) (c : Dev nD) (b h : Fin 16) (d : Fin 64) :
    Lane (∑ T, sideWeight q k bt ln (halfOf c) b h T)
      (∑ T, (sideWeight q k bt ln (halfOf c) b h T : EReal) * v (ix4 (globalPage (halfOf c) (pageOf T)) (spotOf T) h d))
      (ssOf m c (ix3 h b 0)) (ssOf m c (ix3 h b 1)) (soOf m c (ix3 h b d)) := by
  unfold ssOf soOf
  rw [sendS_at_max, sendS_at_sum, sendO_at]
  simp only [xV_at, H.values c]
  exact lane (H.weighs c b h) _

/-- What a device returns for a head of a sequence. -/
theorem Holds.returns (H : Holds m q k v bt ln) (c : Dev nD) (b h : Fin 16) (d : Fin 64) : outOf m c (ix3 h b d) = attend q k v bt ln b h d := by
  have hp := weight_sum_pos q k bt ln b h (H.some_live b)
  unfold outOf
  rw [merged_at]
  have hc : c.val < 4 := c.isLt
  obtain ⟨h0, h1⟩ | ⟨h0, h1⟩ : (halfOf c = 0 ∧ halfOf (pr c) = 1) ∨ (halfOf c = 1 ∧ halfOf (pr c) = 0) := by
    have : ∀ c : Dev nD, (halfOf c = 0 ∧ halfOf (pr c) = 1) ∨ (halfOf c = 1 ∧ halfOf (pr c) = 0) := by decide
    exact this c
  all_goals
    have hz := halves_weight q k bt ln b h
    have hv := halves_value q k v bt ln b h d
    have ha := H.sends c b h d
    have hb := H.sends (pr c) b h d
    rw [h0] at ha
    rw [h1] at hb
  · rw [merge ha hb (by rw [hz]; exact hp), hz, hv]
    rfl
  · rw [add_comm] at hz hv
    rw [merge ha hb (by rw [hz]; exact hp), hz, hv]
    rfl

end

end Cert.KernelIdeal.Talk

end
-- ==== Proof.Reference.lean ====
/- The reference's result at an index. -/
module

public import proofs.«01_k».proof.Proof.Target
public import proofs.«01_k».proof.Proof.Maths
public import proofs.«01_k».proof.Proof.Gen.ReferenceIdeal.Run
public import Idealize.ShloMosaic.Lib.Tactic.CleanTypes

@[expose] public section

noncomputable section

namespace Cert.ReferenceIdeal.Read

open Idealize.ShloMosaic
open Cert.ReferenceIdeal Cert.ReferenceIdeal.Gen Cert.ReferenceIdeal.Value
open Cert.KernelIdeal.Talk (pageOf spotOf pageNo score weight attend Live Weighs softmax_row weight_sum_pos sum_coe cmpi_live floor_host)

/-- The gather of whole pages. -/
abbrev pages : GatherDims S256x16x16x64 S16x128x1 S16x128x16x16x64 := gather_S256x16x16x64_S16x128x1_S16x128x16x16x64_234_0_n_n_0_2_1161664

theorem pages_off (b : Fin 16) (s : Fin 128) (t h : Fin 16) (d : Fin 64) (a : Fin 4) :
    pages.offCoord (ix5 b s t h d) a = (![0, t.val, h.val, d.val] : Fin 4 → ℕ) a := by
  match a with
  | ⟨0, _⟩ => rfl
  | ⟨1, _⟩ => rfl
  | ⟨2, _⟩ => rfl
  | ⟨3, _⟩ => rfl
theorem pages_start (idx : IVec S16x128x1 32) (b : Fin 16) (s : Fin 128) (t h : Fin 16) (d : Fin 64) (a : Fin 4) :
    pages.start (ix5 b s t h d) idx a = (![min (idx (ix3 b s 0)).toInt.toNat 255, 0, 0, 0] : Fin 4 → ℕ) a := by
  match a with
  | ⟨0, _⟩ =>
    have e : pages.siIdx (ix5 b s t h d) ⟨0, by decide⟩ = ix3 b s 0 := by
      funext a
      match a with
      | ⟨0, _⟩ => rfl
      | ⟨1, _⟩ => rfl
      | ⟨2, _⟩ => rfl
    show min (idx (pages.siIdx (ix5 b s t h d) ⟨0, by decide⟩)).toInt.toNat 255 = min (idx (ix3 b s 0)).toInt.toNat 255
    rw [e]
  | ⟨1, _⟩ => rfl
  | ⟨2, _⟩ => rfl
  | ⟨3, _⟩ => rfl

/-- The gather at an index: the page that the start index names, brought into range. -/
theorem gather_at {α : Type} (x : S256x16x16x64.Idx → α) (idx : IVec S16x128x1 32) (b : Fin 16) (s : Fin 128) (t h : Fin 16) (d : Fin 64) :
    Host.gather gather_S256x16x16x64_S16x128x1_S16x128x16x16x64_234_0_n_n_0_2_1161664 x idx (ix5 b s t h d)
      = x (ix4 ⟨min (idx (ix3 b s 0)).toInt.toNat 255, by omega⟩ t h d) := by
  refine congrArg x (funext fun a => Fin.ext ?_)
  have hb : pages.batchCoord (ix5 b s t h d) a = 0 := pages.batchCoord_eq_zero _ _ List.not_mem_nil
  show pages.start (ix5 b s t h d) idx a + pages.batchCoord (ix5 b s t h d) a + pages.offCoord (ix5 b s t h d) a = _
  rw [hb, pages_start, pages_off]
  match a with
  | ⟨0, _⟩ => rfl
  | ⟨1, _⟩ => exact Nat.zero_add _
  | ⟨2, _⟩ => exact Nat.zero_add _
  | ⟨3, _⟩ => exact Nat.zero_add _

/-- A page read through the table of pages. -/
theorem gather_table {α : Type} (x : S256x16x16x64.Idx → α) (bt : IVec S16x128 32) (b : Fin 16) (T : Fin 2048) (h : Fin 16) (d : Fin 64) (hs ht) :
    Host.gather gather_S256x16x16x64_S16x128x1_S16x128x16x16x64_234_0_n_n_0_2_1161664 x
        (broadcastInDim S16x128x1 ![0, 1] bcast_S16x128_S16x128x1_0_1
          (select (cmpi .slt bt (broadcastInDim S16x128 ![] bcast_S_S16x128 (constantI S_ 32 0#32)))
            (addi bt (broadcastInDim S16x128 ![] bcast_S_S16x128 (constantI S_ 32 256#32))) bt))
        (ix5 b ⟨T.val / 16, hs⟩ ⟨T.val % 16, ht⟩ h d)
      = x (ix4 (pageNo (bt (ix2 b (pageOf T)))) (spotOf T) h d) := by
  rw [gather_at]
  pointwise
  rfl

/-- The scale of the scores. -/
theorem eighth : Ideal.ofBits .f32 0x3E000000#32 = ((1 / 8 : ℝ) : EReal) := by
  simp [Ideal.ofBits, Ideal.ieee, -EReal.coe_mul]; norm_num
theorem neg_inf : Ideal.ofBits .f32 0xFF800000#32 = (⊥ : EReal) := by
  simp [Ideal.ofBits, Ideal.ieee]

/-- A row of the reference whose scores have the weights. -/
theorem row_attend (q : S16x1x16x64.Idx → ℝ) (k : S256x16x16x64.Idx → ℝ) (v : S256x16x16x64.Idx → EReal) (bt : S16x128.Idx → BitVec 32)
    (ln : S16.Idx → BitVec 32) (b h : Fin 16) (d : Fin 64) (hl : Live (ln (ix1 b)) 0) (S V : Fin 2048 → EReal) (B : EReal) (hB : B = ⊥)
    (hV : ∀ T, V T = v (ix4 (pageNo (bt (ix2 b (pageOf T)))) (spotOf T) h d)) (hS : ∀ T, Weighs (S T) (weight q k bt ln b h T)) :
    ∑ T, V T * Ideal.div (Ideal.exp (S T - Finset.univ.fold max B S)) (∑ U, Ideal.exp (S U - Finset.univ.fold max B S))
      = attend q k v bt ln b h d := by
  subst hB
  rw [softmax_row hS (weight_sum_pos q k bt ln b h hl) V]
  unfold attend
  rw [Finset.sum_congr rfl fun T _ => by rw [hV T]]

/-- The score of a token in the reference: that of a live slot's page, and −∞ elsewhere. -/
theorem masked (q : S16x1x16x64.Idx → ℝ) (k : S256x16x16x64.Idx → ℝ) (bt : S16x128.Idx → BitVec 32)
    (ln : S16.Idx → BitVec 32) (b h : Fin 16) (T : Fin 2048) (w : BitVec 32) (hw : w = BitVec.ofNat 32 (T.val / 16)) (A B E : EReal)
    (hA : A = ∑ d : Fin 64, (q (ix4 b 0 h d) : EReal) * (k (ix4 (pageNo (bt (ix2 b (pageOf T)))) (spotOf T) h d) : EReal))
    (hE : E = ((1 / 8 : ℝ) : EReal)) (hB : B = ⊥) :
    Weighs (Scalar.select (IntOp.cmpi .slt w (ln (ix1 b))) (A * E) B) (weight q k bt ln b h T) := by
  subst hw hA hE hB
  unfold weight
  by_cases h' : Live (ln (ix1 b)) (pageOf T)
  · refine Or.inr ⟨score q k b h (pageNo (bt (ix2 b (pageOf T)))) (spotOf T), ?_, if_pos h'⟩
    rw [show Scalar.select (IntOp.cmpi .slt (BitVec.ofNat 32 (T.val / 16)) (ln (ix1 b)))
        ((∑ d : Fin 64, (q (ix4 b 0 h d) : EReal) * (k (ix4 (pageNo (bt (ix2 b (pageOf T)))) (spotOf T) h d) : EReal)) * ((1 / 8 : ℝ) : EReal)) ⊥
        = _ from if_pos ((cmpi_live (ln (ix1 b)) (pageOf T)).2 h')]
    unfold score
    rw [EReal.coe_mul, ← sum_coe]
    simp only [EReal.coe_mul]
  · exact Or.inl ⟨if_neg fun e => h' ((cmpi_live (ln (ix1 b)) (pageOf T)).1 e), if_neg h'⟩

set_option maxRecDepth 16384 in
/-- The reference's result for finite queries and keys, where every sequence has a live slot. -/
theorem result_at (m : (ℓ : Loc nD τ sig) → Buf (Elt Ideal) ℓ) (c : Dev nD) (q : S16x1x16x64.Idx → ℝ) (k : S256x16x16x64.Idx → ℝ)
    (hq : m (c.tc.loc main_arg0) = fun i => (q i : EReal)) (hk : m (c.tc.loc main_arg1) = fun i => (k i : EReal))
    (hl : ∀ b : Fin 16, Live ((m (c.tc.loc main_arg4) : IVec S16 32) (ix1 b)) 0) (b h : Fin 16) (d : Fin 64) :
    (res_main_v41 (F := Ideal) m c : S16x1x16x64.Idx → EReal) (ix4 b 0 h d)
      = attend q k (m (c.tc.loc main_arg2)) (m (c.tc.loc main_arg3)) (m (c.tc.loc main_arg4)) b h d := by
  unfold res_main_v41
  clean_types
  pointwise
  refine row_attend q k (m (c.tc.loc main_arg2)) (m (c.tc.loc main_arg3)) (m (c.tc.loc main_arg4)) b h d (hl b) _ _ _ neg_inf (fun T => ?_) (fun T => ?_)
  · exact gather_table (m (c.tc.loc main_arg2)) (m (c.tc.loc main_arg3)) b T h d _ _
  · refine masked q k (m (c.tc.loc main_arg3)) (m (c.tc.loc main_arg4)) b h T _ (floor_host T) _ _ _ (Finset.sum_congr rfl fun x _ => ?_) eighth neg_inf
    refine congrArg₂ (fun a b : EReal => a * b) (congrFun hq (ix4 b 0 h x)) ?_
    exact (gather_table (m (c.tc.loc main_arg1)) (m (c.tc.loc main_arg3)) b T h x _ _).trans (congrFun hk _)

end Cert.ReferenceIdeal.Read

end
-- ==== Proof.Algebraic.lean ====
/- The value claim: every device returns what the reference returns. -/
module

public import proofs.«01_k».proof.Defs
public import proofs.«01_k».proof.Proof.Pre
public import proofs.«01_k».proof.Proof.Value
public import proofs.«01_k».proof.Proof.Reference
public import Idealize.ShloMosaic.Lib.Layout

@[expose] public section

noncomputable section

namespace Cert.Proof

open Idealize.ShloMosaic Idealize.SL.Sem
open Cert.KernelIdeal.Talk (halfOf globalPage Holds attend)

/-- The block of the cache that a device holds: the pages of its half. -/
theorem block_at (X : (⟨4, ![256, 16, 16, 64]⟩ : Shape).Idx → EReal) (c : Dev Cert.KernelIdeal.nD) (p : Fin 128) (t h : Fin 16) (d : Fin 64)
    (hm : ∀ b, ∀ i ∈ (![[0], [], [], []] : Fin 4 → List Nat) b, 0 < ([2, 2] : List Nat).getD i 0) (ht) :
    Layout.blockN ⟨4, ![128, 16, 16, 64]⟩ ⟨4, ![256, 16, 16, 64]⟩ (Layout.meshBlock [2, 2] ![[0], [], [], []] c hm) X ht (ix4 p t h d)
      = X (ix4 (globalPage (halfOf c) p) t h d) := by
  have hc : c.val < 4 := c.isLt
  refine congrArg X (funext fun a => Fin.ext ?_)
  match a with
  | ⟨0, _⟩ => exact show (c.val / 2 % 2 * 1 + 0) * 128 + p.val = 128 * (c.val / 2) + p.val by omega
  | ⟨1, _⟩ => exact show 0 * 16 + t.val = t.val by omega
  | ⟨2, _⟩ => exact show 0 * 16 + h.val = h.val by omega
  | ⟨3, _⟩ => exact show 0 * 64 + d.val = d.val by omega

/-- The device that holds the half of page `P`, and the page's place there. -/
def holder (P : Fin 256) : Dev Cert.KernelIdeal.nD := (⟨2 * (P.val / 128), by unfold Cert.KernelIdeal.nD; omega⟩ : Fin Cert.KernelIdeal.nD)
def placeIn (P : Fin 256) : Fin 128 := ⟨P.val % 128, by omega⟩
theorem page_held (P : Fin 256) : globalPage (halfOf (holder P)) (placeIn P) = P :=
  Fin.ext (show 128 * (2 * (P.val / 128) / 2) + P.val % 128 = P.val by omega)

set_option maxRecDepth 16384 in
/-- From memories that agree and that the precondition allows, every device of the kernel ends with the reference's result. -/
theorem algebraic : Cert.algebraic_KernelIdeal_ReferenceIdeal_pre_live_and_finite_KernelIdeal := by
  intro m g m' g' hpre hag
  have hr := fun c => Cert.Pre_live_and_finite_KernelIdeal.reads _ _ _ _ _ (hpre c)
  obtain ⟨hl, hp, hQ, -⟩ := hr 0
  choose q hq using hQ
  have hKall : ∀ i : (⟨4, ![256, 16, 16, 64]⟩ : Shape).Idx, ∃ r : ℝ,
      (m' (((0 : Dev Cert.ReferenceIdeal.nD).tc : Thread Cert.ReferenceIdeal.nD Cert.ReferenceIdeal.τ).loc Cert.ReferenceIdeal.main_arg1)
        : (⟨4, ![256, 16, 16, 64]⟩ : Shape).Idx → EReal) i = (r : EReal) := fun i => by
    obtain ⟨P, t, h, d, rfl⟩ : ∃ P t h d, i = ix4 P t h d := ⟨_, _, _, _, eq_ix4 i⟩
    obtain ⟨r, hr⟩ := (hr (holder P)).2.2.2 (ix4 (placeIn P) t h d)
    refine ⟨r, ?_⟩
    rw [(hag (holder P)).2.1] at hr
    rw [← hr]
    refine Eq.trans ?_ (block_at _ (holder P) (placeIn P) t h d _ _).symm
    rw [page_held]
  choose k hk using hKall
  have H : Holds m q k
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { queries := fun c => by rw [(hag c).1, ← (hag 0).1]; exact funext hq
      keys := fun c p t h d => by rw [(hag c).2.1]; exact (block_at _ c p t h d _ _).trans (hk _)
      values := fun c p t h d => by rw [(hag c).2.2.1]; exact block_at _ c p t h d _ _
      table := fun c => (hag c).2.2.2.1
      lengths := fun c => (hag c).2.2.2.2
      some_live := by rw [← (hag 0).2.2.2.2]; exact hl
      in_range := by rw [← (hag 0).2.2.2.1, ← (hag 0).2.2.2.2]; exact hp }
  have hres : ∀ c : Dev Cert.KernelIdeal.nD, Cert.KernelIdeal.Talk.Vend m c (Proc.devRef .tc Cert.KernelIdeal.main_v12)
      = Cert.ReferenceIdeal.Value.res_main_v41 (F := Ideal) m' 0 := fun c => by
    refine funext fun (i : (⟨4, ![16, 1, 16, 64]⟩ : Shape).Idx) => ?_
    obtain ⟨b, z, h, d, rfl⟩ : ∃ b z h d, i = ix4 b z h d := ⟨_, _, _, _, eq_ix4 i⟩
    obtain rfl : z = 0 := Subsingleton.elim _ _
    refine (Cert.KernelIdeal.Talk.Vend_at m c b h d).trans ((H.returns c b h d).trans
      (Cert.ReferenceIdeal.Read.result_at m' 0 q k ?_ (funext hk) H.some_live b h d).symm)
    exact (hag 0).1.symm.trans (funext hq)
  refine ⟨Cert.ReferenceIdeal.Value.res_main_v41 (F := Ideal) m' 0,
    (θ_run Cert.KernelIdeal.defs _ _).mono (fun r h c => ⟨(h.1 c).1.trans (hres c), (h.1 c).2⟩) (Cert.KernelIdeal.Talk.run_args (F := Ideal) m g),
    (θ_run Cert.ReferenceIdeal.defs _ _).mono (fun r h => h 0) (Cert.ReferenceIdeal.Value.run (F := Ideal) m' g')⟩

end Cert.Proof

end
-- ==== Proof.lean ====
/- The certificate's claim, assembled. -/
module

public import proofs.«01_k».proof.Defs
public import proofs.«01_k».proof.Proof.Frames
public import proofs.«01_k».proof.Proof.Gen.ReferenceIdeal.Run
public import proofs.«01_k».proof.Proof.Algebraic

@[expose] public section

noncomputable section

namespace Cert.Proof

open Idealize.ShloMosaic Idealize.SL.Sem

/-- The reference's frame: no operation of it writes an argument, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant, the mask, denotes −∞. -/
theorem mask_named : Cert.preserves_Kernel_KernelIdeal :=
  IdealRules.named_const.statement Cert.KernelIdeal.κ "mask" .f32 0xF149F2CA#32 ⊥ rfl

/-- The idealised kernel's frame holds of all memories, so of those that the precondition allows. -/
theorem frame_kernel_pre : Cert.quiescent_KernelIdeal_pre_live_and_finite_KernelIdeal := fun m ρ _ => Cert.KernelIdeal.Talk.frame_ideal m ρ trivial

/-- So does the reference's. -/
theorem frame_reference_pre : Cert.quiescent_ReferenceIdeal_pre_live_and_finite_ReferenceIdeal := fun m ρ _ => frame_reference m ρ trivial

theorem claim : Cert.Claim := ⟨Cert.Kernel.Gen.facts, Cert.KernelIdeal.Gen.facts, Cert.ReferenceIdeal.Gen.facts,
  Cert.Pre_live_and_finite_KernelIdeal.facts, Cert.Pre_live_and_finite_ReferenceIdeal.facts, Cert.KernelIdeal.Talk.frame_bits,
  Cert.KernelIdeal.Talk.frame_ideal, frame_kernel_pre, frame_reference, frame_reference_pre, mask_named, algebraic⟩

end Cert.Proof

end
